-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x64 : Shape := ⟨2, ![4096, 64]⟩
abbrev S2x2x3x64x4096 : Shape := ⟨5, ![2, 2, 3, 64, 4096]⟩
abbrev S2x2x3 : Shape := ⟨3, ![2, 2, 3]⟩
abbrev S_ : Shape := ⟨0, ![]⟩
abbrev S1x1x1 : Shape := ⟨3, ![1, 1, 1]⟩
abbrev S1x1x1x64x4096 : Shape := ⟨5, ![1, 1, 1, 64, 4096]⟩
abbrev S64x4096 : Shape := ⟨2, ![64, 4096]⟩
abbrev S128x64 : Shape := ⟨2, ![128, 64]⟩
abbrev S64x64 : Shape := ⟨2, ![64, 64]⟩

abbrev nBuf : Space → Nat
  | .hbm => 3
  | .vmem => 4
  | .smem => 0
  | _ => 0

abbrev bufTy : (tb : Table) → Fin (tcTables nBuf tb) → BufTy
  | .hbm, ⟨0, _⟩ => ⟨S128x4096, .f32⟩
  | .hbm, ⟨1, _⟩ => ⟨S4096x64, .f32⟩
  | .hbm, ⟨2, _⟩ => ⟨S4096x64, .f32⟩
  | .local _ .vmem, ⟨0, _⟩ => ⟨S128x4096, .f32⟩
  | .local _ .vmem, ⟨1, _⟩ => ⟨S4096x64, .f32⟩
  | .local _ .vmem, ⟨2, _⟩ => ⟨S4096x64, .f32⟩
  | .local _ .vmem, ⟨3, _⟩ => ⟨S2x2x3x64x4096, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 5 27 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 4

abbrev nD : Nat := 32
abbrev τ : Topo := Topo.v7x

variable {F : FTy → Type} [FloatOps F]

abbrev grid0 : Pipeline.Grid := .none

def k0_dev1 (d0 : Dev nD) : Nat :=
  let c0_i32_137 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_136 : BitVec 32 := 1#32
  let v273 : BitVec 32 := Scalar.muli v271 c1_i32_136
  let v274 : BitVec 32 := Scalar.addi c0_i32_137 v273
  v274.toNat
def k0_dev2 (d0 : Dev nD) : Nat :=
  let c0_i32_140 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_139 : BitVec 32 := 1#32
  let v275 : BitVec 32 := Scalar.muli v181 c1_i32_139
  let v276 : BitVec 32 := Scalar.addi c0_i32_140 v275
  v276.toNat
def k0_dev3 (d0 : Dev nD) : Nat :=
  let c0_i32_152 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_151 : BitVec 32 := 1#32
  let v277 : BitVec 32 := Scalar.muli v181 c1_i32_151
  let v278 : BitVec 32 := Scalar.addi c0_i32_152 v277
  v278.toNat
def k0_dev4 (d0 : Dev nD) : Nat :=
  let c0_i32_167 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_166 : BitVec 32 := 1#32
  let v286 : BitVec 32 := Scalar.muli v271 c1_i32_166
  let v287 : BitVec 32 := Scalar.addi c0_i32_167 v286
  v287.toNat
def k0_dev5 (d0 : Dev nD) : Nat :=
  let c0_i32_181 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_180 : BitVec 32 := 1#32
  let v295 : BitVec 32 := Scalar.muli v181 c1_i32_180
  let v296 : BitVec 32 := Scalar.addi c0_i32_181 v295
  v296.toNat
def k0_dev6 (d0 : Dev nD) : Nat :=
  let c0_i32_196 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_195 : BitVec 32 := 1#32
  let v304 : BitVec 32 := Scalar.muli v271 c1_i32_195
  let v305 : BitVec 32 := Scalar.addi c0_i32_196 v304
  v305.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v331 : BitVec 32 := Scalar.muli v2 c128_i32
  let v332 : Index := Scalar.indexCast v331
  let c0_208 : Index := 0#32
  ![v332.toNat, 0]
def k0_dev7 (d0 : Dev nD) : Nat :=
  let c0_i32_240 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_239 : BitVec 32 := 1#32
  let v346 : BitVec 32 := Scalar.muli v271 c1_i32_239
  let v347 : BitVec 32 := Scalar.addi c0_i32_240 v346
  v347.toNat
def k0_dev8 (d0 : Dev nD) : Nat :=
  let c0_i32_254 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_253 : BitVec 32 := 1#32
  let v348 : BitVec 32 := Scalar.muli v181 c1_i32_253
  let v349 : BitVec 32 := Scalar.addi c0_i32_254 v348
  v349.toNat
def k0_dev9 (d0 : Dev nD) : Nat :=
  let c0_i32_290 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_289 : BitVec 32 := 1#32
  let v370 : BitVec 32 := Scalar.muli v181 c1_i32_289
  let v371 : BitVec 32 := Scalar.addi c0_i32_290 v370
  v371.toNat
def k0_dev10 (d0 : Dev nD) : Nat :=
  let c0_i32_304 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_303 : BitVec 32 := 1#32
  let v372 : BitVec 32 := Scalar.muli v271 c1_i32_303
  let v373 : BitVec 32 := Scalar.addi c0_i32_304 v372
  v373.toNat
def k0_dev11 (d0 : Dev nD) : Nat :=
  let c0_i32_340 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_339 : BitVec 32 := 1#32
  let v394 : BitVec 32 := Scalar.muli v271 c1_i32_339
  let v395 : BitVec 32 := Scalar.addi c0_i32_340 v394
  v395.toNat
def k0_dev12 (d0 : Dev nD) : Nat :=
  let c0_i32_354 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_353 : BitVec 32 := 1#32
  let v396 : BitVec 32 := Scalar.muli v181 c1_i32_353
  let v397 : BitVec 32 := Scalar.addi c0_i32_354 v396
  v397.toNat
def k0_dev13 (d0 : Dev nD) : Nat :=
  let c0_i32_390 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_389 : BitVec 32 := 1#32
  let v418 : BitVec 32 := Scalar.muli v181 c1_i32_389
  let v419 : BitVec 32 := Scalar.addi c0_i32_390 v418
  v419.toNat
def k0_dev14 (d0 : Dev nD) : Nat :=
  let c0_i32_404 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_403 : BitVec 32 := 1#32
  let v420 : BitVec 32 := Scalar.muli v271 c1_i32_403
  let v421 : BitVec 32 := Scalar.addi c0_i32_404 v420
  v421.toNat
def k0_off2 (d0 : Dev nD) (c0_i32_409 : BitVec 32) (c0_i32_471 : BitVec 32) : Fin 2 → Nat :=
  let c8_i32_458 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let v430 : BitVec 32 := Scalar.subi v92 c0_i32_409
  let c1_i32_410 : BitVec 32 := 1#32
  let v431 : BitVec 32 := Scalar.subi v430 c1_i32_410
  let c32_i32_411 : BitVec 32 := 32#32
  let v432 : BitVec 32 := Scalar.addi v431 c32_i32_411
  let c32_i32_412 : BitVec 32 := 32#32
  let v433 : BitVec 32 := Scalar.remsi v432 c32_i32_412
  let c0_i32_414 : BitVec 32 := 0#32
  let v435 : BitVec 1 := Scalar.cmpi .sgt v433 c0_i32_414
  let v436 : BitVec 32 := Scalar.extui v435
  let c0_i32_415 : BitVec 32 := 0#32
  let v437 : BitVec 1 := Scalar.cmpi .slt v433 c0_i32_415
  let v438 : BitVec 32 := Scalar.extui v437
  let v439 : BitVec 32 := Scalar.subi v436 v438
  let c16_i32_413 : BitVec 32 := 16#32
  let c0_i32_416 : BitVec 32 := 0#32
  let v440 : BitVec 1 := Scalar.cmpi .sgt c16_i32_413 c0_i32_416
  let v441 : BitVec 32 := Scalar.extui v440
  let c0_i32_417 : BitVec 32 := 0#32
  let v442 : BitVec 1 := Scalar.cmpi .slt c16_i32_413 c0_i32_417
  let v443 : BitVec 32 := Scalar.extui v442
  let v444 : BitVec 32 := Scalar.subi v441 v443
  let v445 : BitVec 1 := Scalar.cmpi .ne v439 v444
  let v446 : BitVec 32 := Scalar.remsi v433 c16_i32_413
  let c0_i32_418 : BitVec 32 := 0#32
  let v447 : BitVec 1 := Scalar.cmpi .ne v446 c0_i32_418
  let v448 : BitVec 1 := Scalar.andi v445 v447
  let v434 : BitVec 32 := Scalar.divsi v433 c16_i32_413
  let c1_i32_419 : BitVec 32 := 1#32
  let v449 : BitVec 32 := Scalar.subi v434 c1_i32_419
  let v450 : BitVec 32 := Scalar.select v448 v449 v434
  let c0_i32_420 : BitVec 32 := 0#32
  let v451 : BitVec 1 := Scalar.cmpi .eq v450 c0_i32_420
  let c31_i32_421 : BitVec 32 := 31#32
  let v452 : BitVec 32 := Scalar.subi c31_i32_421 v433
  let v453 : BitVec 32 := Scalar.select v451 v433 v452
  let c0_i32_423 : BitVec 32 := 0#32
  let v455 : BitVec 1 := Scalar.cmpi .sgt v453 c0_i32_423
  let v456 : BitVec 32 := Scalar.extui v455
  let c0_i32_424 : BitVec 32 := 0#32
  let v457 : BitVec 1 := Scalar.cmpi .slt v453 c0_i32_424
  let v458 : BitVec 32 := Scalar.extui v457
  let v459 : BitVec 32 := Scalar.subi v456 v458
  let c4_i32_422 : BitVec 32 := 4#32
  let c0_i32_425 : BitVec 32 := 0#32
  let v460 : BitVec 1 := Scalar.cmpi .sgt c4_i32_422 c0_i32_425
  let v461 : BitVec 32 := Scalar.extui v460
  let c0_i32_426 : BitVec 32 := 0#32
  let v462 : BitVec 1 := Scalar.cmpi .slt c4_i32_422 c0_i32_426
  let v463 : BitVec 32 := Scalar.extui v462
  let v464 : BitVec 32 := Scalar.subi v461 v463
  let v465 : BitVec 1 := Scalar.cmpi .ne v459 v464
  let v466 : BitVec 32 := Scalar.remsi v453 c4_i32_422
  let c0_i32_427 : BitVec 32 := 0#32
  let v467 : BitVec 1 := Scalar.cmpi .ne v466 c0_i32_427
  let v468 : BitVec 1 := Scalar.andi v465 v467
  let v454 : BitVec 32 := Scalar.divsi v453 c4_i32_422
  let c1_i32_428 : BitVec 32 := 1#32
  let v469 : BitVec 32 := Scalar.subi v454 c1_i32_428
  let v470 : BitVec 32 := Scalar.select v468 v469 v454
  let c2_i32_435 : BitVec 32 := 2#32
  let c0_i32_436 : BitVec 32 := 0#32
  let v481 : BitVec 1 := Scalar.cmpi .eq c2_i32_435 c0_i32_436
  let c1_i32_437 : BitVec 32 := 1#32
  let v482 : BitVec 32 := Scalar.select v481 c1_i32_437 c2_i32_435
  let v483 : BitVec 32 := Scalar.remsi v470 v482
  let c0_i32_439 : BitVec 32 := 0#32
  let v485 : BitVec 1 := Scalar.cmpi .slt v483 c0_i32_439
  let c0_i32_440 : BitVec 32 := 0#32
  let v486 : BitVec 1 := Scalar.cmpi .slt v482 c0_i32_440
  let v487 : BitVec 1 := Scalar.xori v485 v486
  let c0_i32_438 : BitVec 32 := 0#32
  let v484 : BitVec 1 := Scalar.cmpi .ne v483 c0_i32_438
  let v488 : BitVec 1 := Scalar.andi v487 v484
  let v489 : BitVec 32 := Scalar.addi v483 v482
  let v490 : BitVec 32 := Scalar.select v488 v489 v483
  let c0_i32_441 : BitVec 32 := 0#32
  let v491 : BitVec 1 := Scalar.cmpi .eq v490 c0_i32_441
  let c4_i32_429 : BitVec 32 := 4#32
  let c0_i32_430 : BitVec 32 := 0#32
  let v471 : BitVec 1 := Scalar.cmpi .eq c4_i32_429 c0_i32_430
  let c1_i32_431 : BitVec 32 := 1#32
  let v472 : BitVec 32 := Scalar.select v471 c1_i32_431 c4_i32_429
  let v473 : BitVec 32 := Scalar.remsi v453 v472
  let c0_i32_433 : BitVec 32 := 0#32
  let v475 : BitVec 1 := Scalar.cmpi .slt v473 c0_i32_433
  let c0_i32_434 : BitVec 32 := 0#32
  let v476 : BitVec 1 := Scalar.cmpi .slt v472 c0_i32_434
  let v477 : BitVec 1 := Scalar.xori v475 v476
  let c0_i32_432 : BitVec 32 := 0#32
  let v474 : BitVec 1 := Scalar.cmpi .ne v473 c0_i32_432
  let v478 : BitVec 1 := Scalar.andi v477 v474
  let v479 : BitVec 32 := Scalar.addi v473 v472
  let v480 : BitVec 32 := Scalar.select v478 v479 v473
  let c3_i32_442 : BitVec 32 := 3#32
  let v492 : BitVec 32 := Scalar.subi c3_i32_442 v480
  let v493 : BitVec 32 := Scalar.select v491 v480 v492
  let v519 : BitVec 32 := Scalar.muli c8_i32_458 v493
  let c2_i32_443 : BitVec 32 := 2#32
  let v494 : BitVec 32 := Scalar.muli c2_i32_443 v470
  let c0_i32_444 : BitVec 32 := 0#32
  let v495 : BitVec 1 := Scalar.cmpi .eq v450 c0_i32_444
  let c2_i32_445 : BitVec 32 := 2#32
  let c0_i32_446 : BitVec 32 := 0#32
  let v496 : BitVec 1 := Scalar.cmpi .eq c2_i32_445 c0_i32_446
  let c1_i32_447 : BitVec 32 := 1#32
  let v497 : BitVec 32 := Scalar.select v496 c1_i32_447 c2_i32_445
  let v498 : BitVec 32 := Scalar.remsi v470 v497
  let c0_i32_449 : BitVec 32 := 0#32
  let v500 : BitVec 1 := Scalar.cmpi .slt v498 c0_i32_449
  let c0_i32_450 : BitVec 32 := 0#32
  let v501 : BitVec 1 := Scalar.cmpi .slt v497 c0_i32_450
  let v502 : BitVec 1 := Scalar.xori v500 v501
  let c0_i32_448 : BitVec 32 := 0#32
  let v499 : BitVec 1 := Scalar.cmpi .ne v498 c0_i32_448
  let v503 : BitVec 1 := Scalar.andi v502 v499
  let v504 : BitVec 32 := Scalar.addi v498 v497
  let v505 : BitVec 32 := Scalar.select v503 v504 v498
  let c1_i32_457 : BitVec 32 := 1#32
  let c2_i32_451 : BitVec 32 := 2#32
  let c0_i32_452 : BitVec 32 := 0#32
  let v506 : BitVec 1 := Scalar.cmpi .eq c2_i32_451 c0_i32_452
  let c1_i32_453 : BitVec 32 := 1#32
  let v507 : BitVec 32 := Scalar.select v506 c1_i32_453 c2_i32_451
  let v508 : BitVec 32 := Scalar.remsi v470 v507
  let c0_i32_455 : BitVec 32 := 0#32
  let v510 : BitVec 1 := Scalar.cmpi .slt v508 c0_i32_455
  let c0_i32_456 : BitVec 32 := 0#32
  let v511 : BitVec 1 := Scalar.cmpi .slt v507 c0_i32_456
  let v512 : BitVec 1 := Scalar.xori v510 v511
  let c0_i32_454 : BitVec 32 := 0#32
  let v509 : BitVec 1 := Scalar.cmpi .ne v508 c0_i32_454
  let v513 : BitVec 1 := Scalar.andi v512 v509
  let v514 : BitVec 32 := Scalar.addi v508 v507
  let v515 : BitVec 32 := Scalar.select v513 v514 v508
  let v516 : BitVec 32 := Scalar.subi c1_i32_457 v515
  let v517 : BitVec 32 := Scalar.select v495 v505 v516
  let v518 : BitVec 32 := Scalar.addi v494 v517
  let v520 : BitVec 32 := Scalar.addi v519 v518
  let c128_i32_470 : BitVec 32 := 128#32
  let v539 : BitVec 32 := Scalar.muli v520 c128_i32_470
  let v540 : BitVec 32 := Scalar.addi v539 c0_i32_471
  let v541 : Index := Scalar.indexCast v540
  let c0_472 : Index := 0#32
  ![v541.toNat, 0]
def k0_off2_at (r : Fin 31) : BitVec 32 × BitVec 32 :=
  if r.val < 15 then
    if r.val < 7 then
      if r.val < 3 then
        if r.val < 1 then
          (0#32, 0#32)
        else
          if r.val < 2 then
            (0#32, 64#32)
          else
            (1#32, 0#32)
      else
        if r.val < 5 then
          if r.val < 4 then
            (1#32, 64#32)
          else
            (2#32, 0#32)
        else
          if r.val < 6 then
            (2#32, 64#32)
          else
            (3#32, 0#32)
    else
      if r.val < 11 then
        if r.val < 9 then
          if r.val < 8 then
            (3#32, 64#32)
          else
            (4#32, 0#32)
        else
          if r.val < 10 then
            (4#32, 64#32)
          else
            (5#32, 0#32)
      else
        if r.val < 13 then
          if r.val < 12 then
            (5#32, 64#32)
          else
            (6#32, 0#32)
        else
          if r.val < 14 then
            (6#32, 64#32)
          else
            (7#32, 0#32)
  else
    if r.val < 23 then
      if r.val < 19 then
        if r.val < 17 then
          if r.val < 16 then
            (7#32, 64#32)
          else
            (8#32, 0#32)
        else
          if r.val < 18 then
            (8#32, 64#32)
          else
            (9#32, 0#32)
      else
        if r.val < 21 then
          if r.val < 20 then
            (9#32, 64#32)
          else
            (10#32, 0#32)
        else
          if r.val < 22 then
            (10#32, 64#32)
          else
            (11#32, 0#32)
    else
      if r.val < 27 then
        if r.val < 25 then
          if r.val < 24 then
            (11#32, 64#32)
          else
            (12#32, 0#32)
        else
          if r.val < 26 then
            (12#32, 64#32)
          else
            (13#32, 0#32)
      else
        if r.val < 29 then
          if r.val < 28 then
            (13#32, 64#32)
          else
            (14#32, 0#32)
        else
          if r.val < 30 then
            (14#32, 64#32)
          else
            (15#32, 0#32)
def k0_off3 (d0 : Dev nD) (c0_i32_473 : BitVec 32) (c64_i32_535 : BitVec 32) : Fin 2 → Nat :=
  let c8_i32_521 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let v543 : BitVec 32 := Scalar.addi v92 c0_i32_473
  let c1_i32_474 : BitVec 32 := 1#32
  let v544 : BitVec 32 := Scalar.addi v543 c1_i32_474
  let c32_i32_475 : BitVec 32 := 32#32
  let v545 : BitVec 32 := Scalar.remsi v544 c32_i32_475
  let c0_i32_477 : BitVec 32 := 0#32
  let v547 : BitVec 1 := Scalar.cmpi .sgt v545 c0_i32_477
  let v548 : BitVec 32 := Scalar.extui v547
  let c0_i32_478 : BitVec 32 := 0#32
  let v549 : BitVec 1 := Scalar.cmpi .slt v545 c0_i32_478
  let v550 : BitVec 32 := Scalar.extui v549
  let v551 : BitVec 32 := Scalar.subi v548 v550
  let c16_i32_476 : BitVec 32 := 16#32
  let c0_i32_479 : BitVec 32 := 0#32
  let v552 : BitVec 1 := Scalar.cmpi .sgt c16_i32_476 c0_i32_479
  let v553 : BitVec 32 := Scalar.extui v552
  let c0_i32_480 : BitVec 32 := 0#32
  let v554 : BitVec 1 := Scalar.cmpi .slt c16_i32_476 c0_i32_480
  let v555 : BitVec 32 := Scalar.extui v554
  let v556 : BitVec 32 := Scalar.subi v553 v555
  let v557 : BitVec 1 := Scalar.cmpi .ne v551 v556
  let v558 : BitVec 32 := Scalar.remsi v545 c16_i32_476
  let c0_i32_481 : BitVec 32 := 0#32
  let v559 : BitVec 1 := Scalar.cmpi .ne v558 c0_i32_481
  let v560 : BitVec 1 := Scalar.andi v557 v559
  let v546 : BitVec 32 := Scalar.divsi v545 c16_i32_476
  let c1_i32_482 : BitVec 32 := 1#32
  let v561 : BitVec 32 := Scalar.subi v546 c1_i32_482
  let v562 : BitVec 32 := Scalar.select v560 v561 v546
  let c0_i32_483 : BitVec 32 := 0#32
  let v563 : BitVec 1 := Scalar.cmpi .eq v562 c0_i32_483
  let c31_i32_484 : BitVec 32 := 31#32
  let v564 : BitVec 32 := Scalar.subi c31_i32_484 v545
  let v565 : BitVec 32 := Scalar.select v563 v545 v564
  let c0_i32_486 : BitVec 32 := 0#32
  let v567 : BitVec 1 := Scalar.cmpi .sgt v565 c0_i32_486
  let v568 : BitVec 32 := Scalar.extui v567
  let c0_i32_487 : BitVec 32 := 0#32
  let v569 : BitVec 1 := Scalar.cmpi .slt v565 c0_i32_487
  let v570 : BitVec 32 := Scalar.extui v569
  let v571 : BitVec 32 := Scalar.subi v568 v570
  let c4_i32_485 : BitVec 32 := 4#32
  let c0_i32_488 : BitVec 32 := 0#32
  let v572 : BitVec 1 := Scalar.cmpi .sgt c4_i32_485 c0_i32_488
  let v573 : BitVec 32 := Scalar.extui v572
  let c0_i32_489 : BitVec 32 := 0#32
  let v574 : BitVec 1 := Scalar.cmpi .slt c4_i32_485 c0_i32_489
  let v575 : BitVec 32 := Scalar.extui v574
  let v576 : BitVec 32 := Scalar.subi v573 v575
  let v577 : BitVec 1 := Scalar.cmpi .ne v571 v576
  let v578 : BitVec 32 := Scalar.remsi v565 c4_i32_485
  let c0_i32_490 : BitVec 32 := 0#32
  let v579 : BitVec 1 := Scalar.cmpi .ne v578 c0_i32_490
  let v580 : BitVec 1 := Scalar.andi v577 v579
  let v566 : BitVec 32 := Scalar.divsi v565 c4_i32_485
  let c1_i32_491 : BitVec 32 := 1#32
  let v581 : BitVec 32 := Scalar.subi v566 c1_i32_491
  let v582 : BitVec 32 := Scalar.select v580 v581 v566
  let c2_i32_498 : BitVec 32 := 2#32
  let c0_i32_499 : BitVec 32 := 0#32
  let v593 : BitVec 1 := Scalar.cmpi .eq c2_i32_498 c0_i32_499
  let c1_i32_500 : BitVec 32 := 1#32
  let v594 : BitVec 32 := Scalar.select v593 c1_i32_500 c2_i32_498
  let v595 : BitVec 32 := Scalar.remsi v582 v594
  let c0_i32_502 : BitVec 32 := 0#32
  let v597 : BitVec 1 := Scalar.cmpi .slt v595 c0_i32_502
  let c0_i32_503 : BitVec 32 := 0#32
  let v598 : BitVec 1 := Scalar.cmpi .slt v594 c0_i32_503
  let v599 : BitVec 1 := Scalar.xori v597 v598
  let c0_i32_501 : BitVec 32 := 0#32
  let v596 : BitVec 1 := Scalar.cmpi .ne v595 c0_i32_501
  let v600 : BitVec 1 := Scalar.andi v599 v596
  let v601 : BitVec 32 := Scalar.addi v595 v594
  let v602 : BitVec 32 := Scalar.select v600 v601 v595
  let c0_i32_504 : BitVec 32 := 0#32
  let v603 : BitVec 1 := Scalar.cmpi .eq v602 c0_i32_504
  let c4_i32_492 : BitVec 32 := 4#32
  let c0_i32_493 : BitVec 32 := 0#32
  let v583 : BitVec 1 := Scalar.cmpi .eq c4_i32_492 c0_i32_493
  let c1_i32_494 : BitVec 32 := 1#32
  let v584 : BitVec 32 := Scalar.select v583 c1_i32_494 c4_i32_492
  let v585 : BitVec 32 := Scalar.remsi v565 v584
  let c0_i32_496 : BitVec 32 := 0#32
  let v587 : BitVec 1 := Scalar.cmpi .slt v585 c0_i32_496
  let c0_i32_497 : BitVec 32 := 0#32
  let v588 : BitVec 1 := Scalar.cmpi .slt v584 c0_i32_497
  let v589 : BitVec 1 := Scalar.xori v587 v588
  let c0_i32_495 : BitVec 32 := 0#32
  let v586 : BitVec 1 := Scalar.cmpi .ne v585 c0_i32_495
  let v590 : BitVec 1 := Scalar.andi v589 v586
  let v591 : BitVec 32 := Scalar.addi v585 v584
  let v592 : BitVec 32 := Scalar.select v590 v591 v585
  let c3_i32_505 : BitVec 32 := 3#32
  let v604 : BitVec 32 := Scalar.subi c3_i32_505 v592
  let v605 : BitVec 32 := Scalar.select v603 v592 v604
  let v631 : BitVec 32 := Scalar.muli c8_i32_521 v605
  let c2_i32_506 : BitVec 32 := 2#32
  let v606 : BitVec 32 := Scalar.muli c2_i32_506 v582
  let c0_i32_507 : BitVec 32 := 0#32
  let v607 : BitVec 1 := Scalar.cmpi .eq v562 c0_i32_507
  let c2_i32_508 : BitVec 32 := 2#32
  let c0_i32_509 : BitVec 32 := 0#32
  let v608 : BitVec 1 := Scalar.cmpi .eq c2_i32_508 c0_i32_509
  let c1_i32_510 : BitVec 32 := 1#32
  let v609 : BitVec 32 := Scalar.select v608 c1_i32_510 c2_i32_508
  let v610 : BitVec 32 := Scalar.remsi v582 v609
  let c0_i32_512 : BitVec 32 := 0#32
  let v612 : BitVec 1 := Scalar.cmpi .slt v610 c0_i32_512
  let c0_i32_513 : BitVec 32 := 0#32
  let v613 : BitVec 1 := Scalar.cmpi .slt v609 c0_i32_513
  let v614 : BitVec 1 := Scalar.xori v612 v613
  let c0_i32_511 : BitVec 32 := 0#32
  let v611 : BitVec 1 := Scalar.cmpi .ne v610 c0_i32_511
  let v615 : BitVec 1 := Scalar.andi v614 v611
  let v616 : BitVec 32 := Scalar.addi v610 v609
  let v617 : BitVec 32 := Scalar.select v615 v616 v610
  let c1_i32_520 : BitVec 32 := 1#32
  let c2_i32_514 : BitVec 32 := 2#32
  let c0_i32_515 : BitVec 32 := 0#32
  let v618 : BitVec 1 := Scalar.cmpi .eq c2_i32_514 c0_i32_515
  let c1_i32_516 : BitVec 32 := 1#32
  let v619 : BitVec 32 := Scalar.select v618 c1_i32_516 c2_i32_514
  let v620 : BitVec 32 := Scalar.remsi v582 v619
  let c0_i32_518 : BitVec 32 := 0#32
  let v622 : BitVec 1 := Scalar.cmpi .slt v620 c0_i32_518
  let c0_i32_519 : BitVec 32 := 0#32
  let v623 : BitVec 1 := Scalar.cmpi .slt v619 c0_i32_519
  let v624 : BitVec 1 := Scalar.xori v622 v623
  let c0_i32_517 : BitVec 32 := 0#32
  let v621 : BitVec 1 := Scalar.cmpi .ne v620 c0_i32_517
  let v625 : BitVec 1 := Scalar.andi v624 v621
  let v626 : BitVec 32 := Scalar.addi v620 v619
  let v627 : BitVec 32 := Scalar.select v625 v626 v620
  let v628 : BitVec 32 := Scalar.subi c1_i32_520 v627
  let v629 : BitVec 32 := Scalar.select v607 v617 v628
  let v630 : BitVec 32 := Scalar.addi v606 v629
  let v632 : BitVec 32 := Scalar.addi v631 v630
  let c128_i32_534 : BitVec 32 := 128#32
  let v651 : BitVec 32 := Scalar.muli v632 c128_i32_534
  let v652 : BitVec 32 := Scalar.addi v651 c64_i32_535
  let v653 : Index := Scalar.indexCast v652
  let c0_536 : Index := 0#32
  ![v653.toNat, 0]
def k0_off3_at (r : Fin 31) : BitVec 32 × BitVec 32 :=
  if r.val < 15 then
    if r.val < 7 then
      if r.val < 3 then
        if r.val < 1 then
          (0#32, 64#32)
        else
          if r.val < 2 then
            (0#32, 0#32)
          else
            (1#32, 64#32)
      else
        if r.val < 5 then
          if r.val < 4 then
            (1#32, 0#32)
          else
            (2#32, 64#32)
        else
          if r.val < 6 then
            (2#32, 0#32)
          else
            (3#32, 64#32)
    else
      if r.val < 11 then
        if r.val < 9 then
          if r.val < 8 then
            (3#32, 0#32)
          else
            (4#32, 64#32)
        else
          if r.val < 10 then
            (4#32, 0#32)
          else
            (5#32, 64#32)
      else
        if r.val < 13 then
          if r.val < 12 then
            (5#32, 0#32)
          else
            (6#32, 64#32)
        else
          if r.val < 14 then
            (6#32, 0#32)
          else
            (7#32, 64#32)
  else
    if r.val < 23 then
      if r.val < 19 then
        if r.val < 17 then
          if r.val < 16 then
            (7#32, 0#32)
          else
            (8#32, 64#32)
        else
          if r.val < 18 then
            (8#32, 0#32)
          else
            (9#32, 64#32)
      else
        if r.val < 21 then
          if r.val < 20 then
            (9#32, 0#32)
          else
            (10#32, 64#32)
        else
          if r.val < 22 then
            (10#32, 0#32)
          else
            (11#32, 64#32)
    else
      if r.val < 27 then
        if r.val < 25 then
          if r.val < 24 then
            (11#32, 0#32)
          else
            (12#32, 64#32)
        else
          if r.val < 26 then
            (12#32, 0#32)
          else
            (13#32, 64#32)
      else
        if r.val < 29 then
          if r.val < 28 then
            (13#32, 0#32)
          else
            (14#32, 64#32)
        else
          if r.val < 30 then
            (14#32, 0#32)
          else
            (15#32, 64#32)
def k0_dev15 (d0 : Dev nD) : Nat :=
  let c0_i32_703 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_702 : BitVec 32 := 1#32
  let v894 : BitVec 32 := Scalar.muli v271 c1_i32_702
  let v895 : BitVec 32 := Scalar.addi c0_i32_703 v894
  v895.toNat
def k0_dev16 (d0 : Dev nD) : Nat :=
  let c0_i32_719 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_718 : BitVec 32 := 1#32
  let v896 : BitVec 32 := Scalar.muli v181 c1_i32_718
  let v897 : BitVec 32 := Scalar.addi c0_i32_719 v896
  v897.toNat
def k0_dev17 (d0 : Dev nD) : Nat :=
  let c0_i32_761 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_760 : BitVec 32 := 1#32
  let v920 : BitVec 32 := Scalar.muli v181 c1_i32_760
  let v921 : BitVec 32 := Scalar.addi c0_i32_761 v920
  v921.toNat
def k0_dev18 (d0 : Dev nD) : Nat :=
  let c0_i32_777 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_776 : BitVec 32 := 1#32
  let v922 : BitVec 32 := Scalar.muli v271 c1_i32_776
  let v923 : BitVec 32 := Scalar.addi c0_i32_777 v922
  v923.toNat
def k0_dev19 (d0 : Dev nD) : Nat :=
  let c0_i32_819 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_818 : BitVec 32 := 1#32
  let v946 : BitVec 32 := Scalar.muli v271 c1_i32_818
  let v947 : BitVec 32 := Scalar.addi c0_i32_819 v946
  v947.toNat
def k0_dev20 (d0 : Dev nD) : Nat :=
  let c0_i32_835 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_834 : BitVec 32 := 1#32
  let v948 : BitVec 32 := Scalar.muli v181 c1_i32_834
  let v949 : BitVec 32 := Scalar.addi c0_i32_835 v948
  v949.toNat
def k0_dev21 (d0 : Dev nD) : Nat :=
  let c0_i32_877 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_876 : BitVec 32 := 1#32
  let v972 : BitVec 32 := Scalar.muli v181 c1_i32_876
  let v973 : BitVec 32 := Scalar.addi c0_i32_877 v972
  v973.toNat
def k0_dev22 (d0 : Dev nD) : Nat :=
  let c0_i32_893 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_892 : BitVec 32 := 1#32
  let v974 : BitVec 32 := Scalar.muli v271 c1_i32_892
  let v975 : BitVec 32 := Scalar.addi c0_i32_893 v974
  v975.toNat
def k0_dev23 (d0 : Dev nD) : Nat :=
  let c0_i32_1192 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_1191 : BitVec 32 := 1#32
  let v1448 : BitVec 32 := Scalar.muli v271 c1_i32_1191
  let v1449 : BitVec 32 := Scalar.addi c0_i32_1192 v1448
  v1449.toNat
def k0_dev24 (d0 : Dev nD) : Nat :=
  let c0_i32_1208 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_1207 : BitVec 32 := 1#32
  let v1450 : BitVec 32 := Scalar.muli v181 c1_i32_1207
  let v1451 : BitVec 32 := Scalar.addi c0_i32_1208 v1450
  v1451.toNat
def k0_dev25 (d0 : Dev nD) : Nat :=
  let c0_i32_1250 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_1249 : BitVec 32 := 1#32
  let v1474 : BitVec 32 := Scalar.muli v181 c1_i32_1249
  let v1475 : BitVec 32 := Scalar.addi c0_i32_1250 v1474
  v1475.toNat
def k0_dev26 (d0 : Dev nD) : Nat :=
  let c0_i32_1266 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_1265 : BitVec 32 := 1#32
  let v1476 : BitVec 32 := Scalar.muli v271 c1_i32_1265
  let v1477 : BitVec 32 := Scalar.addi c0_i32_1266 v1476
  v1477.toNat
def k0_dev27 (d0 : Dev nD) : Nat :=
  let c0_i32_1308 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_1307 : BitVec 32 := 1#32
  let v1500 : BitVec 32 := Scalar.muli v271 c1_i32_1307
  let v1501 : BitVec 32 := Scalar.addi c0_i32_1308 v1500
  v1501.toNat
def k0_dev28 (d0 : Dev nD) : Nat :=
  let c0_i32_1324 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_1323 : BitVec 32 := 1#32
  let v1502 : BitVec 32 := Scalar.muli v181 c1_i32_1323
  let v1503 : BitVec 32 := Scalar.addi c0_i32_1324 v1502
  v1503.toNat
def k0_dev29 (d0 : Dev nD) : Nat :=
  let c0_i32_1366 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_1365 : BitVec 32 := 1#32
  let v1526 : BitVec 32 := Scalar.muli v181 c1_i32_1365
  let v1527 : BitVec 32 := Scalar.addi c0_i32_1366 v1526
  v1527.toNat
def k0_dev30 (d0 : Dev nD) : Nat :=
  let c0_i32_1382 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_1381 : BitVec 32 := 1#32
  let v1528 : BitVec 32 := Scalar.muli v271 c1_i32_1381
  let v1529 : BitVec 32 := Scalar.addi c0_i32_1382 v1528
  v1529.toNat
def k0_dev31 (d0 : Dev nD) : Nat :=
  let c0_i32_1682 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_1681 : BitVec 32 := 1#32
  let v2002 : BitVec 32 := Scalar.muli v271 c1_i32_1681
  let v2003 : BitVec 32 := Scalar.addi c0_i32_1682 v2002
  v2003.toNat
def k0_dev32 (d0 : Dev nD) : Nat :=
  let c0_i32_1698 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_1697 : BitVec 32 := 1#32
  let v2004 : BitVec 32 := Scalar.muli v181 c1_i32_1697
  let v2005 : BitVec 32 := Scalar.addi c0_i32_1698 v2004
  v2005.toNat
def k0_dev33 (d0 : Dev nD) : Nat :=
  let c0_i32_1740 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_1739 : BitVec 32 := 1#32
  let v2028 : BitVec 32 := Scalar.muli v181 c1_i32_1739
  let v2029 : BitVec 32 := Scalar.addi c0_i32_1740 v2028
  v2029.toNat
def k0_dev34 (d0 : Dev nD) : Nat :=
  let c0_i32_1756 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_1755 : BitVec 32 := 1#32
  let v2030 : BitVec 32 := Scalar.muli v271 c1_i32_1755
  let v2031 : BitVec 32 := Scalar.addi c0_i32_1756 v2030
  v2031.toNat
def k0_dev35 (d0 : Dev nD) : Nat :=
  let c0_i32_1798 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_1797 : BitVec 32 := 1#32
  let v2054 : BitVec 32 := Scalar.muli v271 c1_i32_1797
  let v2055 : BitVec 32 := Scalar.addi c0_i32_1798 v2054
  v2055.toNat
def k0_dev36 (d0 : Dev nD) : Nat :=
  let c0_i32_1814 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_1813 : BitVec 32 := 1#32
  let v2056 : BitVec 32 := Scalar.muli v181 c1_i32_1813
  let v2057 : BitVec 32 := Scalar.addi c0_i32_1814 v2056
  v2057.toNat
def k0_dev37 (d0 : Dev nD) : Nat :=
  let c0_i32_1856 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_1855 : BitVec 32 := 1#32
  let v2080 : BitVec 32 := Scalar.muli v181 c1_i32_1855
  let v2081 : BitVec 32 := Scalar.addi c0_i32_1856 v2080
  v2081.toNat
def k0_dev38 (d0 : Dev nD) : Nat :=
  let c0_i32_1872 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_1871 : BitVec 32 := 1#32
  let v2082 : BitVec 32 := Scalar.muli v271 c1_i32_1871
  let v2083 : BitVec 32 := Scalar.addi c0_i32_1872 v2082
  v2083.toNat
def k0_dev39 (d0 : Dev nD) : Nat :=
  let c0_i32_2172 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_2171 : BitVec 32 := 1#32
  let v2556 : BitVec 32 := Scalar.muli v271 c1_i32_2171
  let v2557 : BitVec 32 := Scalar.addi c0_i32_2172 v2556
  v2557.toNat
def k0_dev40 (d0 : Dev nD) : Nat :=
  let c0_i32_2188 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_2187 : BitVec 32 := 1#32
  let v2558 : BitVec 32 := Scalar.muli v181 c1_i32_2187
  let v2559 : BitVec 32 := Scalar.addi c0_i32_2188 v2558
  v2559.toNat
def k0_dev41 (d0 : Dev nD) : Nat :=
  let c0_i32_2230 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_2229 : BitVec 32 := 1#32
  let v2582 : BitVec 32 := Scalar.muli v181 c1_i32_2229
  let v2583 : BitVec 32 := Scalar.addi c0_i32_2230 v2582
  v2583.toNat
def k0_dev42 (d0 : Dev nD) : Nat :=
  let c0_i32_2246 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_2245 : BitVec 32 := 1#32
  let v2584 : BitVec 32 := Scalar.muli v271 c1_i32_2245
  let v2585 : BitVec 32 := Scalar.addi c0_i32_2246 v2584
  v2585.toNat
def k0_dev43 (d0 : Dev nD) : Nat :=
  let c0_i32_2288 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_2287 : BitVec 32 := 1#32
  let v2608 : BitVec 32 := Scalar.muli v271 c1_i32_2287
  let v2609 : BitVec 32 := Scalar.addi c0_i32_2288 v2608
  v2609.toNat
def k0_dev44 (d0 : Dev nD) : Nat :=
  let c0_i32_2304 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_2303 : BitVec 32 := 1#32
  let v2610 : BitVec 32 := Scalar.muli v181 c1_i32_2303
  let v2611 : BitVec 32 := Scalar.addi c0_i32_2304 v2610
  v2611.toNat
def k0_dev45 (d0 : Dev nD) : Nat :=
  let c0_i32_2346 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_2345 : BitVec 32 := 1#32
  let v2634 : BitVec 32 := Scalar.muli v181 c1_i32_2345
  let v2635 : BitVec 32 := Scalar.addi c0_i32_2346 v2634
  v2635.toNat
def k0_dev46 (d0 : Dev nD) : Nat :=
  let c0_i32_2362 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_2361 : BitVec 32 := 1#32
  let v2636 : BitVec 32 := Scalar.muli v271 c1_i32_2361
  let v2637 : BitVec 32 := Scalar.addi c0_i32_2362 v2636
  v2637.toNat
def k0_dev47 (d0 : Dev nD) : Nat :=
  let c0_i32_2662 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_2661 : BitVec 32 := 1#32
  let v3110 : BitVec 32 := Scalar.muli v271 c1_i32_2661
  let v3111 : BitVec 32 := Scalar.addi c0_i32_2662 v3110
  v3111.toNat
def k0_dev48 (d0 : Dev nD) : Nat :=
  let c0_i32_2678 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_2677 : BitVec 32 := 1#32
  let v3112 : BitVec 32 := Scalar.muli v181 c1_i32_2677
  let v3113 : BitVec 32 := Scalar.addi c0_i32_2678 v3112
  v3113.toNat
def k0_dev49 (d0 : Dev nD) : Nat :=
  let c0_i32_2720 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_2719 : BitVec 32 := 1#32
  let v3136 : BitVec 32 := Scalar.muli v181 c1_i32_2719
  let v3137 : BitVec 32 := Scalar.addi c0_i32_2720 v3136
  v3137.toNat
def k0_dev50 (d0 : Dev nD) : Nat :=
  let c0_i32_2736 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_2735 : BitVec 32 := 1#32
  let v3138 : BitVec 32 := Scalar.muli v271 c1_i32_2735
  let v3139 : BitVec 32 := Scalar.addi c0_i32_2736 v3138
  v3139.toNat
def k0_dev51 (d0 : Dev nD) : Nat :=
  let c0_i32_2778 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_2777 : BitVec 32 := 1#32
  let v3162 : BitVec 32 := Scalar.muli v271 c1_i32_2777
  let v3163 : BitVec 32 := Scalar.addi c0_i32_2778 v3162
  v3163.toNat
def k0_dev52 (d0 : Dev nD) : Nat :=
  let c0_i32_2794 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_2793 : BitVec 32 := 1#32
  let v3164 : BitVec 32 := Scalar.muli v181 c1_i32_2793
  let v3165 : BitVec 32 := Scalar.addi c0_i32_2794 v3164
  v3165.toNat
def k0_dev53 (d0 : Dev nD) : Nat :=
  let c0_i32_2836 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_2835 : BitVec 32 := 1#32
  let v3188 : BitVec 32 := Scalar.muli v181 c1_i32_2835
  let v3189 : BitVec 32 := Scalar.addi c0_i32_2836 v3188
  v3189.toNat
def k0_dev54 (d0 : Dev nD) : Nat :=
  let c0_i32_2852 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_2851 : BitVec 32 := 1#32
  let v3190 : BitVec 32 := Scalar.muli v271 c1_i32_2851
  let v3191 : BitVec 32 := Scalar.addi c0_i32_2852 v3190
  v3191.toNat
def k0_dev55 (d0 : Dev nD) : Nat :=
  let c0_i32_3151 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_3150 : BitVec 32 := 1#32
  let v3664 : BitVec 32 := Scalar.muli v271 c1_i32_3150
  let v3665 : BitVec 32 := Scalar.addi c0_i32_3151 v3664
  v3665.toNat
def k0_dev56 (d0 : Dev nD) : Nat :=
  let c0_i32_3167 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_3166 : BitVec 32 := 1#32
  let v3666 : BitVec 32 := Scalar.muli v181 c1_i32_3166
  let v3667 : BitVec 32 := Scalar.addi c0_i32_3167 v3666
  v3667.toNat
def k0_dev57 (d0 : Dev nD) : Nat :=
  let c0_i32_3209 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_3208 : BitVec 32 := 1#32
  let v3690 : BitVec 32 := Scalar.muli v181 c1_i32_3208
  let v3691 : BitVec 32 := Scalar.addi c0_i32_3209 v3690
  v3691.toNat
def k0_dev58 (d0 : Dev nD) : Nat :=
  let c0_i32_3225 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_3224 : BitVec 32 := 1#32
  let v3692 : BitVec 32 := Scalar.muli v271 c1_i32_3224
  let v3693 : BitVec 32 := Scalar.addi c0_i32_3225 v3692
  v3693.toNat
def k0_dev59 (d0 : Dev nD) : Nat :=
  let c0_i32_3267 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_3266 : BitVec 32 := 1#32
  let v3716 : BitVec 32 := Scalar.muli v271 c1_i32_3266
  let v3717 : BitVec 32 := Scalar.addi c0_i32_3267 v3716
  v3717.toNat
def k0_dev60 (d0 : Dev nD) : Nat :=
  let c0_i32_3283 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_3282 : BitVec 32 := 1#32
  let v3718 : BitVec 32 := Scalar.muli v181 c1_i32_3282
  let v3719 : BitVec 32 := Scalar.addi c0_i32_3283 v3718
  v3719.toNat
def k0_dev61 (d0 : Dev nD) : Nat :=
  let c0_i32_3325 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_3324 : BitVec 32 := 1#32
  let v3742 : BitVec 32 := Scalar.muli v181 c1_i32_3324
  let v3743 : BitVec 32 := Scalar.addi c0_i32_3325 v3742
  v3743.toNat
def k0_dev62 (d0 : Dev nD) : Nat :=
  let c0_i32_3341 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_3340 : BitVec 32 := 1#32
  let v3744 : BitVec 32 := Scalar.muli v271 c1_i32_3340
  let v3745 : BitVec 32 := Scalar.addi c0_i32_3341 v3744
  v3745.toNat
def k0_dev63 (d0 : Dev nD) : Nat :=
  let c0_i32_3640 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_3639 : BitVec 32 := 1#32
  let v4218 : BitVec 32 := Scalar.muli v271 c1_i32_3639
  let v4219 : BitVec 32 := Scalar.addi c0_i32_3640 v4218
  v4219.toNat
def k0_dev64 (d0 : Dev nD) : Nat :=
  let c0_i32_3656 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_3655 : BitVec 32 := 1#32
  let v4220 : BitVec 32 := Scalar.muli v181 c1_i32_3655
  let v4221 : BitVec 32 := Scalar.addi c0_i32_3656 v4220
  v4221.toNat
def k0_dev65 (d0 : Dev nD) : Nat :=
  let c0_i32_3698 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_3697 : BitVec 32 := 1#32
  let v4244 : BitVec 32 := Scalar.muli v181 c1_i32_3697
  let v4245 : BitVec 32 := Scalar.addi c0_i32_3698 v4244
  v4245.toNat
def k0_dev66 (d0 : Dev nD) : Nat :=
  let c0_i32_3714 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_3713 : BitVec 32 := 1#32
  let v4246 : BitVec 32 := Scalar.muli v271 c1_i32_3713
  let v4247 : BitVec 32 := Scalar.addi c0_i32_3714 v4246
  v4247.toNat
def k0_dev67 (d0 : Dev nD) : Nat :=
  let c0_i32_3756 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_3755 : BitVec 32 := 1#32
  let v4270 : BitVec 32 := Scalar.muli v271 c1_i32_3755
  let v4271 : BitVec 32 := Scalar.addi c0_i32_3756 v4270
  v4271.toNat
def k0_dev68 (d0 : Dev nD) : Nat :=
  let c0_i32_3772 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_3771 : BitVec 32 := 1#32
  let v4272 : BitVec 32 := Scalar.muli v181 c1_i32_3771
  let v4273 : BitVec 32 := Scalar.addi c0_i32_3772 v4272
  v4273.toNat
def k0_dev69 (d0 : Dev nD) : Nat :=
  let c0_i32_3814 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_3813 : BitVec 32 := 1#32
  let v4296 : BitVec 32 := Scalar.muli v181 c1_i32_3813
  let v4297 : BitVec 32 := Scalar.addi c0_i32_3814 v4296
  v4297.toNat
def k0_dev70 (d0 : Dev nD) : Nat :=
  let c0_i32_3830 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_3829 : BitVec 32 := 1#32
  let v4298 : BitVec 32 := Scalar.muli v271 c1_i32_3829
  let v4299 : BitVec 32 := Scalar.addi c0_i32_3830 v4298
  v4299.toNat
def k0_dev71 (d0 : Dev nD) : Nat :=
  let c0_i32_4129 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_4128 : BitVec 32 := 1#32
  let v4772 : BitVec 32 := Scalar.muli v271 c1_i32_4128
  let v4773 : BitVec 32 := Scalar.addi c0_i32_4129 v4772
  v4773.toNat
def k0_dev72 (d0 : Dev nD) : Nat :=
  let c0_i32_4145 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_4144 : BitVec 32 := 1#32
  let v4774 : BitVec 32 := Scalar.muli v181 c1_i32_4144
  let v4775 : BitVec 32 := Scalar.addi c0_i32_4145 v4774
  v4775.toNat
def k0_dev73 (d0 : Dev nD) : Nat :=
  let c0_i32_4187 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_4186 : BitVec 32 := 1#32
  let v4798 : BitVec 32 := Scalar.muli v181 c1_i32_4186
  let v4799 : BitVec 32 := Scalar.addi c0_i32_4187 v4798
  v4799.toNat
def k0_dev74 (d0 : Dev nD) : Nat :=
  let c0_i32_4203 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_4202 : BitVec 32 := 1#32
  let v4800 : BitVec 32 := Scalar.muli v271 c1_i32_4202
  let v4801 : BitVec 32 := Scalar.addi c0_i32_4203 v4800
  v4801.toNat
def k0_dev75 (d0 : Dev nD) : Nat :=
  let c0_i32_4245 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_4244 : BitVec 32 := 1#32
  let v4824 : BitVec 32 := Scalar.muli v271 c1_i32_4244
  let v4825 : BitVec 32 := Scalar.addi c0_i32_4245 v4824
  v4825.toNat
def k0_dev76 (d0 : Dev nD) : Nat :=
  let c0_i32_4261 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_4260 : BitVec 32 := 1#32
  let v4826 : BitVec 32 := Scalar.muli v181 c1_i32_4260
  let v4827 : BitVec 32 := Scalar.addi c0_i32_4261 v4826
  v4827.toNat
def k0_dev77 (d0 : Dev nD) : Nat :=
  let c0_i32_4303 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_4302 : BitVec 32 := 1#32
  let v4850 : BitVec 32 := Scalar.muli v181 c1_i32_4302
  let v4851 : BitVec 32 := Scalar.addi c0_i32_4303 v4850
  v4851.toNat
def k0_dev78 (d0 : Dev nD) : Nat :=
  let c0_i32_4319 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_4318 : BitVec 32 := 1#32
  let v4852 : BitVec 32 := Scalar.muli v271 c1_i32_4318
  let v4853 : BitVec 32 := Scalar.addi c0_i32_4319 v4852
  v4853.toNat
def k0_dev79 (d0 : Dev nD) : Nat :=
  let c0_i32_4619 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_4618 : BitVec 32 := 1#32
  let v5326 : BitVec 32 := Scalar.muli v271 c1_i32_4618
  let v5327 : BitVec 32 := Scalar.addi c0_i32_4619 v5326
  v5327.toNat
def k0_dev80 (d0 : Dev nD) : Nat :=
  let c0_i32_4635 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_4634 : BitVec 32 := 1#32
  let v5328 : BitVec 32 := Scalar.muli v181 c1_i32_4634
  let v5329 : BitVec 32 := Scalar.addi c0_i32_4635 v5328
  v5329.toNat
def k0_dev81 (d0 : Dev nD) : Nat :=
  let c0_i32_4677 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_4676 : BitVec 32 := 1#32
  let v5352 : BitVec 32 := Scalar.muli v181 c1_i32_4676
  let v5353 : BitVec 32 := Scalar.addi c0_i32_4677 v5352
  v5353.toNat
def k0_dev82 (d0 : Dev nD) : Nat :=
  let c0_i32_4693 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_4692 : BitVec 32 := 1#32
  let v5354 : BitVec 32 := Scalar.muli v271 c1_i32_4692
  let v5355 : BitVec 32 := Scalar.addi c0_i32_4693 v5354
  v5355.toNat
def k0_dev83 (d0 : Dev nD) : Nat :=
  let c0_i32_4735 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_4734 : BitVec 32 := 1#32
  let v5378 : BitVec 32 := Scalar.muli v271 c1_i32_4734
  let v5379 : BitVec 32 := Scalar.addi c0_i32_4735 v5378
  v5379.toNat
def k0_dev84 (d0 : Dev nD) : Nat :=
  let c0_i32_4751 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_4750 : BitVec 32 := 1#32
  let v5380 : BitVec 32 := Scalar.muli v181 c1_i32_4750
  let v5381 : BitVec 32 := Scalar.addi c0_i32_4751 v5380
  v5381.toNat
def k0_dev85 (d0 : Dev nD) : Nat :=
  let c0_i32_4793 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_4792 : BitVec 32 := 1#32
  let v5404 : BitVec 32 := Scalar.muli v181 c1_i32_4792
  let v5405 : BitVec 32 := Scalar.addi c0_i32_4793 v5404
  v5405.toNat
def k0_dev86 (d0 : Dev nD) : Nat :=
  let c0_i32_4809 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_4808 : BitVec 32 := 1#32
  let v5406 : BitVec 32 := Scalar.muli v271 c1_i32_4808
  let v5407 : BitVec 32 := Scalar.addi c0_i32_4809 v5406
  v5407.toNat
def k0_dev87 (d0 : Dev nD) : Nat :=
  let c0_i32_5108 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_5107 : BitVec 32 := 1#32
  let v5880 : BitVec 32 := Scalar.muli v271 c1_i32_5107
  let v5881 : BitVec 32 := Scalar.addi c0_i32_5108 v5880
  v5881.toNat
def k0_dev88 (d0 : Dev nD) : Nat :=
  let c0_i32_5124 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_5123 : BitVec 32 := 1#32
  let v5882 : BitVec 32 := Scalar.muli v181 c1_i32_5123
  let v5883 : BitVec 32 := Scalar.addi c0_i32_5124 v5882
  v5883.toNat
def k0_dev89 (d0 : Dev nD) : Nat :=
  let c0_i32_5166 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_5165 : BitVec 32 := 1#32
  let v5906 : BitVec 32 := Scalar.muli v181 c1_i32_5165
  let v5907 : BitVec 32 := Scalar.addi c0_i32_5166 v5906
  v5907.toNat
def k0_dev90 (d0 : Dev nD) : Nat :=
  let c0_i32_5182 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_5181 : BitVec 32 := 1#32
  let v5908 : BitVec 32 := Scalar.muli v271 c1_i32_5181
  let v5909 : BitVec 32 := Scalar.addi c0_i32_5182 v5908
  v5909.toNat
def k0_dev91 (d0 : Dev nD) : Nat :=
  let c0_i32_5224 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_5223 : BitVec 32 := 1#32
  let v5932 : BitVec 32 := Scalar.muli v271 c1_i32_5223
  let v5933 : BitVec 32 := Scalar.addi c0_i32_5224 v5932
  v5933.toNat
def k0_dev92 (d0 : Dev nD) : Nat :=
  let c0_i32_5240 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_5239 : BitVec 32 := 1#32
  let v5934 : BitVec 32 := Scalar.muli v181 c1_i32_5239
  let v5935 : BitVec 32 := Scalar.addi c0_i32_5240 v5934
  v5935.toNat
def k0_dev93 (d0 : Dev nD) : Nat :=
  let c0_i32_5282 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_5281 : BitVec 32 := 1#32
  let v5958 : BitVec 32 := Scalar.muli v181 c1_i32_5281
  let v5959 : BitVec 32 := Scalar.addi c0_i32_5282 v5958
  v5959.toNat
def k0_dev94 (d0 : Dev nD) : Nat :=
  let c0_i32_5298 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_5297 : BitVec 32 := 1#32
  let v5960 : BitVec 32 := Scalar.muli v271 c1_i32_5297
  let v5961 : BitVec 32 := Scalar.addi c0_i32_5298 v5960
  v5961.toNat
def k0_dev95 (d0 : Dev nD) : Nat :=
  let c0_i32_5597 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_5596 : BitVec 32 := 1#32
  let v6434 : BitVec 32 := Scalar.muli v271 c1_i32_5596
  let v6435 : BitVec 32 := Scalar.addi c0_i32_5597 v6434
  v6435.toNat
def k0_dev96 (d0 : Dev nD) : Nat :=
  let c0_i32_5613 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_5612 : BitVec 32 := 1#32
  let v6436 : BitVec 32 := Scalar.muli v181 c1_i32_5612
  let v6437 : BitVec 32 := Scalar.addi c0_i32_5613 v6436
  v6437.toNat
def k0_dev97 (d0 : Dev nD) : Nat :=
  let c0_i32_5655 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_5654 : BitVec 32 := 1#32
  let v6460 : BitVec 32 := Scalar.muli v181 c1_i32_5654
  let v6461 : BitVec 32 := Scalar.addi c0_i32_5655 v6460
  v6461.toNat
def k0_dev98 (d0 : Dev nD) : Nat :=
  let c0_i32_5671 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_5670 : BitVec 32 := 1#32
  let v6462 : BitVec 32 := Scalar.muli v271 c1_i32_5670
  let v6463 : BitVec 32 := Scalar.addi c0_i32_5671 v6462
  v6463.toNat
def k0_dev99 (d0 : Dev nD) : Nat :=
  let c0_i32_5713 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_5712 : BitVec 32 := 1#32
  let v6486 : BitVec 32 := Scalar.muli v271 c1_i32_5712
  let v6487 : BitVec 32 := Scalar.addi c0_i32_5713 v6486
  v6487.toNat
def k0_dev100 (d0 : Dev nD) : Nat :=
  let c0_i32_5729 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_5728 : BitVec 32 := 1#32
  let v6488 : BitVec 32 := Scalar.muli v181 c1_i32_5728
  let v6489 : BitVec 32 := Scalar.addi c0_i32_5729 v6488
  v6489.toNat
def k0_dev101 (d0 : Dev nD) : Nat :=
  let c0_i32_5771 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_5770 : BitVec 32 := 1#32
  let v6512 : BitVec 32 := Scalar.muli v181 c1_i32_5770
  let v6513 : BitVec 32 := Scalar.addi c0_i32_5771 v6512
  v6513.toNat
def k0_dev102 (d0 : Dev nD) : Nat :=
  let c0_i32_5787 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_5786 : BitVec 32 := 1#32
  let v6514 : BitVec 32 := Scalar.muli v271 c1_i32_5786
  let v6515 : BitVec 32 := Scalar.addi c0_i32_5787 v6514
  v6515.toNat
def k0_dev103 (d0 : Dev nD) : Nat :=
  let c0_i32_6086 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_6085 : BitVec 32 := 1#32
  let v6988 : BitVec 32 := Scalar.muli v271 c1_i32_6085
  let v6989 : BitVec 32 := Scalar.addi c0_i32_6086 v6988
  v6989.toNat
def k0_dev104 (d0 : Dev nD) : Nat :=
  let c0_i32_6102 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_6101 : BitVec 32 := 1#32
  let v6990 : BitVec 32 := Scalar.muli v181 c1_i32_6101
  let v6991 : BitVec 32 := Scalar.addi c0_i32_6102 v6990
  v6991.toNat
def k0_dev105 (d0 : Dev nD) : Nat :=
  let c0_i32_6144 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_6143 : BitVec 32 := 1#32
  let v7014 : BitVec 32 := Scalar.muli v181 c1_i32_6143
  let v7015 : BitVec 32 := Scalar.addi c0_i32_6144 v7014
  v7015.toNat
def k0_dev106 (d0 : Dev nD) : Nat :=
  let c0_i32_6160 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_6159 : BitVec 32 := 1#32
  let v7016 : BitVec 32 := Scalar.muli v271 c1_i32_6159
  let v7017 : BitVec 32 := Scalar.addi c0_i32_6160 v7016
  v7017.toNat
def k0_dev107 (d0 : Dev nD) : Nat :=
  let c0_i32_6202 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_6201 : BitVec 32 := 1#32
  let v7040 : BitVec 32 := Scalar.muli v271 c1_i32_6201
  let v7041 : BitVec 32 := Scalar.addi c0_i32_6202 v7040
  v7041.toNat
def k0_dev108 (d0 : Dev nD) : Nat :=
  let c0_i32_6218 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_6217 : BitVec 32 := 1#32
  let v7042 : BitVec 32 := Scalar.muli v181 c1_i32_6217
  let v7043 : BitVec 32 := Scalar.addi c0_i32_6218 v7042
  v7043.toNat
def k0_dev109 (d0 : Dev nD) : Nat :=
  let c0_i32_6260 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_6259 : BitVec 32 := 1#32
  let v7066 : BitVec 32 := Scalar.muli v181 c1_i32_6259
  let v7067 : BitVec 32 := Scalar.addi c0_i32_6260 v7066
  v7067.toNat
def k0_dev110 (d0 : Dev nD) : Nat :=
  let c0_i32_6276 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_6275 : BitVec 32 := 1#32
  let v7068 : BitVec 32 := Scalar.muli v271 c1_i32_6275
  let v7069 : BitVec 32 := Scalar.addi c0_i32_6276 v7068
  v7069.toNat
def k0_dev111 (d0 : Dev nD) : Nat :=
  let c0_i32_6575 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_6574 : BitVec 32 := 1#32
  let v7542 : BitVec 32 := Scalar.muli v271 c1_i32_6574
  let v7543 : BitVec 32 := Scalar.addi c0_i32_6575 v7542
  v7543.toNat
def k0_dev112 (d0 : Dev nD) : Nat :=
  let c0_i32_6591 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_6590 : BitVec 32 := 1#32
  let v7544 : BitVec 32 := Scalar.muli v181 c1_i32_6590
  let v7545 : BitVec 32 := Scalar.addi c0_i32_6591 v7544
  v7545.toNat
def k0_dev113 (d0 : Dev nD) : Nat :=
  let c0_i32_6633 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_6632 : BitVec 32 := 1#32
  let v7568 : BitVec 32 := Scalar.muli v181 c1_i32_6632
  let v7569 : BitVec 32 := Scalar.addi c0_i32_6633 v7568
  v7569.toNat
def k0_dev114 (d0 : Dev nD) : Nat :=
  let c0_i32_6649 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_6648 : BitVec 32 := 1#32
  let v7570 : BitVec 32 := Scalar.muli v271 c1_i32_6648
  let v7571 : BitVec 32 := Scalar.addi c0_i32_6649 v7570
  v7571.toNat
def k0_dev115 (d0 : Dev nD) : Nat :=
  let c0_i32_6704 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_6703 : BitVec 32 := 1#32
  let v7594 : BitVec 32 := Scalar.muli v181 c1_i32_6703
  let v7595 : BitVec 32 := Scalar.addi c0_i32_6704 v7594
  v7595.toNat
def k0_dev116 (d0 : Dev nD) : Nat :=
  let c0_i32_6759 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_6758 : BitVec 32 := 1#32
  let v7618 : BitVec 32 := Scalar.muli v271 c1_i32_6758
  let v7619 : BitVec 32 := Scalar.addi c0_i32_6759 v7618
  v7619.toNat
def k0_dev117 (d0 : Dev nD) : Nat :=
  let c0_i32_7071 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c1_i32_39 : BitVec 32 := 1#32
  let v93 : BitVec 32 := Scalar.addi v92 c1_i32_39
  let c32_i32_40 : BitVec 32 := 32#32
  let v94 : BitVec 32 := Scalar.remsi v93 c32_i32_40
  let c0_i32_41 : BitVec 32 := 0#32
  let v96 : BitVec 1 := Scalar.cmpi .sgt v94 c0_i32_41
  let v97 : BitVec 32 := Scalar.extui v96
  let c0_i32_42 : BitVec 32 := 0#32
  let v98 : BitVec 1 := Scalar.cmpi .slt v94 c0_i32_42
  let v99 : BitVec 32 := Scalar.extui v98
  let v100 : BitVec 32 := Scalar.subi v97 v99
  let c16_i32 : BitVec 32 := 16#32
  let c0_i32_43 : BitVec 32 := 0#32
  let v101 : BitVec 1 := Scalar.cmpi .sgt c16_i32 c0_i32_43
  let v102 : BitVec 32 := Scalar.extui v101
  let c0_i32_44 : BitVec 32 := 0#32
  let v103 : BitVec 1 := Scalar.cmpi .slt c16_i32 c0_i32_44
  let v104 : BitVec 32 := Scalar.extui v103
  let v105 : BitVec 32 := Scalar.subi v102 v104
  let v106 : BitVec 1 := Scalar.cmpi .ne v100 v105
  let v107 : BitVec 32 := Scalar.remsi v94 c16_i32
  let c0_i32_45 : BitVec 32 := 0#32
  let v108 : BitVec 1 := Scalar.cmpi .ne v107 c0_i32_45
  let v109 : BitVec 1 := Scalar.andi v106 v108
  let v95 : BitVec 32 := Scalar.divsi v94 c16_i32
  let c1_i32_46 : BitVec 32 := 1#32
  let v110 : BitVec 32 := Scalar.subi v95 c1_i32_46
  let v111 : BitVec 32 := Scalar.select v109 v110 v95
  let c0_i32_47 : BitVec 32 := 0#32
  let v112 : BitVec 1 := Scalar.cmpi .eq v111 c0_i32_47
  let c31_i32_48 : BitVec 32 := 31#32
  let v113 : BitVec 32 := Scalar.subi c31_i32_48 v94
  let v114 : BitVec 32 := Scalar.select v112 v94 v113
  let c0_i32_50 : BitVec 32 := 0#32
  let v116 : BitVec 1 := Scalar.cmpi .sgt v114 c0_i32_50
  let v117 : BitVec 32 := Scalar.extui v116
  let c0_i32_51 : BitVec 32 := 0#32
  let v118 : BitVec 1 := Scalar.cmpi .slt v114 c0_i32_51
  let v119 : BitVec 32 := Scalar.extui v118
  let v120 : BitVec 32 := Scalar.subi v117 v119
  let c4_i32_49 : BitVec 32 := 4#32
  let c0_i32_52 : BitVec 32 := 0#32
  let v121 : BitVec 1 := Scalar.cmpi .sgt c4_i32_49 c0_i32_52
  let v122 : BitVec 32 := Scalar.extui v121
  let c0_i32_53 : BitVec 32 := 0#32
  let v123 : BitVec 1 := Scalar.cmpi .slt c4_i32_49 c0_i32_53
  let v124 : BitVec 32 := Scalar.extui v123
  let v125 : BitVec 32 := Scalar.subi v122 v124
  let v126 : BitVec 1 := Scalar.cmpi .ne v120 v125
  let v127 : BitVec 32 := Scalar.remsi v114 c4_i32_49
  let c0_i32_54 : BitVec 32 := 0#32
  let v128 : BitVec 1 := Scalar.cmpi .ne v127 c0_i32_54
  let v129 : BitVec 1 := Scalar.andi v126 v128
  let v115 : BitVec 32 := Scalar.divsi v114 c4_i32_49
  let c1_i32_55 : BitVec 32 := 1#32
  let v130 : BitVec 32 := Scalar.subi v115 c1_i32_55
  let v131 : BitVec 32 := Scalar.select v129 v130 v115
  let c2_i32_62 : BitVec 32 := 2#32
  let c0_i32_63 : BitVec 32 := 0#32
  let v142 : BitVec 1 := Scalar.cmpi .eq c2_i32_62 c0_i32_63
  let c1_i32_64 : BitVec 32 := 1#32
  let v143 : BitVec 32 := Scalar.select v142 c1_i32_64 c2_i32_62
  let v144 : BitVec 32 := Scalar.remsi v131 v143
  let c0_i32_66 : BitVec 32 := 0#32
  let v146 : BitVec 1 := Scalar.cmpi .slt v144 c0_i32_66
  let c0_i32_67 : BitVec 32 := 0#32
  let v147 : BitVec 1 := Scalar.cmpi .slt v143 c0_i32_67
  let v148 : BitVec 1 := Scalar.xori v146 v147
  let c0_i32_65 : BitVec 32 := 0#32
  let v145 : BitVec 1 := Scalar.cmpi .ne v144 c0_i32_65
  let v149 : BitVec 1 := Scalar.andi v148 v145
  let v150 : BitVec 32 := Scalar.addi v144 v143
  let v151 : BitVec 32 := Scalar.select v149 v150 v144
  let c0_i32_68 : BitVec 32 := 0#32
  let v152 : BitVec 1 := Scalar.cmpi .eq v151 c0_i32_68
  let c4_i32_56 : BitVec 32 := 4#32
  let c0_i32_57 : BitVec 32 := 0#32
  let v132 : BitVec 1 := Scalar.cmpi .eq c4_i32_56 c0_i32_57
  let c1_i32_58 : BitVec 32 := 1#32
  let v133 : BitVec 32 := Scalar.select v132 c1_i32_58 c4_i32_56
  let v134 : BitVec 32 := Scalar.remsi v114 v133
  let c0_i32_60 : BitVec 32 := 0#32
  let v136 : BitVec 1 := Scalar.cmpi .slt v134 c0_i32_60
  let c0_i32_61 : BitVec 32 := 0#32
  let v137 : BitVec 1 := Scalar.cmpi .slt v133 c0_i32_61
  let v138 : BitVec 1 := Scalar.xori v136 v137
  let c0_i32_59 : BitVec 32 := 0#32
  let v135 : BitVec 1 := Scalar.cmpi .ne v134 c0_i32_59
  let v139 : BitVec 1 := Scalar.andi v138 v135
  let v140 : BitVec 32 := Scalar.addi v134 v133
  let v141 : BitVec 32 := Scalar.select v139 v140 v134
  let c3_i32_69 : BitVec 32 := 3#32
  let v153 : BitVec 32 := Scalar.subi c3_i32_69 v141
  let v154 : BitVec 32 := Scalar.select v152 v141 v153
  let v180 : BitVec 32 := Scalar.muli c8_i32_85 v154
  let c2_i32_70 : BitVec 32 := 2#32
  let v155 : BitVec 32 := Scalar.muli c2_i32_70 v131
  let c0_i32_71 : BitVec 32 := 0#32
  let v156 : BitVec 1 := Scalar.cmpi .eq v111 c0_i32_71
  let c2_i32_72 : BitVec 32 := 2#32
  let c0_i32_73 : BitVec 32 := 0#32
  let v157 : BitVec 1 := Scalar.cmpi .eq c2_i32_72 c0_i32_73
  let c1_i32_74 : BitVec 32 := 1#32
  let v158 : BitVec 32 := Scalar.select v157 c1_i32_74 c2_i32_72
  let v159 : BitVec 32 := Scalar.remsi v131 v158
  let c0_i32_76 : BitVec 32 := 0#32
  let v161 : BitVec 1 := Scalar.cmpi .slt v159 c0_i32_76
  let c0_i32_77 : BitVec 32 := 0#32
  let v162 : BitVec 1 := Scalar.cmpi .slt v158 c0_i32_77
  let v163 : BitVec 1 := Scalar.xori v161 v162
  let c0_i32_75 : BitVec 32 := 0#32
  let v160 : BitVec 1 := Scalar.cmpi .ne v159 c0_i32_75
  let v164 : BitVec 1 := Scalar.andi v163 v160
  let v165 : BitVec 32 := Scalar.addi v159 v158
  let v166 : BitVec 32 := Scalar.select v164 v165 v159
  let c1_i32_84 : BitVec 32 := 1#32
  let c2_i32_78 : BitVec 32 := 2#32
  let c0_i32_79 : BitVec 32 := 0#32
  let v167 : BitVec 1 := Scalar.cmpi .eq c2_i32_78 c0_i32_79
  let c1_i32_80 : BitVec 32 := 1#32
  let v168 : BitVec 32 := Scalar.select v167 c1_i32_80 c2_i32_78
  let v169 : BitVec 32 := Scalar.remsi v131 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let v177 : BitVec 32 := Scalar.subi c1_i32_84 v176
  let v178 : BitVec 32 := Scalar.select v156 v166 v177
  let v179 : BitVec 32 := Scalar.addi v155 v178
  let v181 : BitVec 32 := Scalar.addi v180 v179
  let c1_i32_7070 : BitVec 32 := 1#32
  let v8092 : BitVec 32 := Scalar.muli v181 c1_i32_7070
  let v8093 : BitVec 32 := Scalar.addi c0_i32_7071 v8092
  v8093.toNat
def k0_dev118 (d0 : Dev nD) : Nat :=
  let c0_i32_7126 : BitVec 32 := 0#32
  let c8_i32_134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.addi v29 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c0_i32_38 : BitVec 32 := 0#32
  let v90 : BitVec 1 := Scalar.cmpi .eq v74 c0_i32_38
  let c4_i32 : BitVec 32 := 4#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c4_i32 v46
  let c2_i32_31 : BitVec 32 := 2#32
  let c0_i32_32 : BitVec 32 := 0#32
  let v76 : BitVec 1 := Scalar.cmpi .eq c2_i32_31 c0_i32_32
  let c1_i32_33 : BitVec 32 := 1#32
  let v77 : BitVec 32 := Scalar.select v76 c1_i32_33 c2_i32_31
  let v78 : BitVec 32 := Scalar.remsi v46 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let c0_i32_37 : BitVec 32 := 0#32
  let v86 : BitVec 1 := Scalar.cmpi .eq v85 c0_i32_37
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v87 : BitVec 32 := Scalar.subi c3_i32 v19
  let v88 : BitVec 32 := Scalar.select v86 v19 v87
  let v89 : BitVec 32 := Scalar.addi v75 v88
  let c31_i32 : BitVec 32 := 31#32
  let v91 : BitVec 32 := Scalar.subi c31_i32 v89
  let v92 : BitVec 32 := Scalar.select v90 v89 v91
  let c32_i32_86 : BitVec 32 := 32#32
  let v182 : BitVec 32 := Scalar.addi v92 c32_i32_86
  let c1_i32_87 : BitVec 32 := 1#32
  let v183 : BitVec 32 := Scalar.subi v182 c1_i32_87
  let c32_i32_88 : BitVec 32 := 32#32
  let v184 : BitVec 32 := Scalar.remsi v183 c32_i32_88
  let c0_i32_90 : BitVec 32 := 0#32
  let v186 : BitVec 1 := Scalar.cmpi .sgt v184 c0_i32_90
  let v187 : BitVec 32 := Scalar.extui v186
  let c0_i32_91 : BitVec 32 := 0#32
  let v188 : BitVec 1 := Scalar.cmpi .slt v184 c0_i32_91
  let v189 : BitVec 32 := Scalar.extui v188
  let v190 : BitVec 32 := Scalar.subi v187 v189
  let c16_i32_89 : BitVec 32 := 16#32
  let c0_i32_92 : BitVec 32 := 0#32
  let v191 : BitVec 1 := Scalar.cmpi .sgt c16_i32_89 c0_i32_92
  let v192 : BitVec 32 := Scalar.extui v191
  let c0_i32_93 : BitVec 32 := 0#32
  let v193 : BitVec 1 := Scalar.cmpi .slt c16_i32_89 c0_i32_93
  let v194 : BitVec 32 := Scalar.extui v193
  let v195 : BitVec 32 := Scalar.subi v192 v194
  let v196 : BitVec 1 := Scalar.cmpi .ne v190 v195
  let v197 : BitVec 32 := Scalar.remsi v184 c16_i32_89
  let c0_i32_94 : BitVec 32 := 0#32
  let v198 : BitVec 1 := Scalar.cmpi .ne v197 c0_i32_94
  let v199 : BitVec 1 := Scalar.andi v196 v198
  let v185 : BitVec 32 := Scalar.divsi v184 c16_i32_89
  let c1_i32_95 : BitVec 32 := 1#32
  let v200 : BitVec 32 := Scalar.subi v185 c1_i32_95
  let v201 : BitVec 32 := Scalar.select v199 v200 v185
  let c0_i32_96 : BitVec 32 := 0#32
  let v202 : BitVec 1 := Scalar.cmpi .eq v201 c0_i32_96
  let c31_i32_97 : BitVec 32 := 31#32
  let v203 : BitVec 32 := Scalar.subi c31_i32_97 v184
  let v204 : BitVec 32 := Scalar.select v202 v184 v203
  let c0_i32_99 : BitVec 32 := 0#32
  let v206 : BitVec 1 := Scalar.cmpi .sgt v204 c0_i32_99
  let v207 : BitVec 32 := Scalar.extui v206
  let c0_i32_100 : BitVec 32 := 0#32
  let v208 : BitVec 1 := Scalar.cmpi .slt v204 c0_i32_100
  let v209 : BitVec 32 := Scalar.extui v208
  let v210 : BitVec 32 := Scalar.subi v207 v209
  let c4_i32_98 : BitVec 32 := 4#32
  let c0_i32_101 : BitVec 32 := 0#32
  let v211 : BitVec 1 := Scalar.cmpi .sgt c4_i32_98 c0_i32_101
  let v212 : BitVec 32 := Scalar.extui v211
  let c0_i32_102 : BitVec 32 := 0#32
  let v213 : BitVec 1 := Scalar.cmpi .slt c4_i32_98 c0_i32_102
  let v214 : BitVec 32 := Scalar.extui v213
  let v215 : BitVec 32 := Scalar.subi v212 v214
  let v216 : BitVec 1 := Scalar.cmpi .ne v210 v215
  let v217 : BitVec 32 := Scalar.remsi v204 c4_i32_98
  let c0_i32_103 : BitVec 32 := 0#32
  let v218 : BitVec 1 := Scalar.cmpi .ne v217 c0_i32_103
  let v219 : BitVec 1 := Scalar.andi v216 v218
  let v205 : BitVec 32 := Scalar.divsi v204 c4_i32_98
  let c1_i32_104 : BitVec 32 := 1#32
  let v220 : BitVec 32 := Scalar.subi v205 c1_i32_104
  let v221 : BitVec 32 := Scalar.select v219 v220 v205
  let c2_i32_111 : BitVec 32 := 2#32
  let c0_i32_112 : BitVec 32 := 0#32
  let v232 : BitVec 1 := Scalar.cmpi .eq c2_i32_111 c0_i32_112
  let c1_i32_113 : BitVec 32 := 1#32
  let v233 : BitVec 32 := Scalar.select v232 c1_i32_113 c2_i32_111
  let v234 : BitVec 32 := Scalar.remsi v221 v233
  let c0_i32_115 : BitVec 32 := 0#32
  let v236 : BitVec 1 := Scalar.cmpi .slt v234 c0_i32_115
  let c0_i32_116 : BitVec 32 := 0#32
  let v237 : BitVec 1 := Scalar.cmpi .slt v233 c0_i32_116
  let v238 : BitVec 1 := Scalar.xori v236 v237
  let c0_i32_114 : BitVec 32 := 0#32
  let v235 : BitVec 1 := Scalar.cmpi .ne v234 c0_i32_114
  let v239 : BitVec 1 := Scalar.andi v238 v235
  let v240 : BitVec 32 := Scalar.addi v234 v233
  let v241 : BitVec 32 := Scalar.select v239 v240 v234
  let c0_i32_117 : BitVec 32 := 0#32
  let v242 : BitVec 1 := Scalar.cmpi .eq v241 c0_i32_117
  let c4_i32_105 : BitVec 32 := 4#32
  let c0_i32_106 : BitVec 32 := 0#32
  let v222 : BitVec 1 := Scalar.cmpi .eq c4_i32_105 c0_i32_106
  let c1_i32_107 : BitVec 32 := 1#32
  let v223 : BitVec 32 := Scalar.select v222 c1_i32_107 c4_i32_105
  let v224 : BitVec 32 := Scalar.remsi v204 v223
  let c0_i32_109 : BitVec 32 := 0#32
  let v226 : BitVec 1 := Scalar.cmpi .slt v224 c0_i32_109
  let c0_i32_110 : BitVec 32 := 0#32
  let v227 : BitVec 1 := Scalar.cmpi .slt v223 c0_i32_110
  let v228 : BitVec 1 := Scalar.xori v226 v227
  let c0_i32_108 : BitVec 32 := 0#32
  let v225 : BitVec 1 := Scalar.cmpi .ne v224 c0_i32_108
  let v229 : BitVec 1 := Scalar.andi v228 v225
  let v230 : BitVec 32 := Scalar.addi v224 v223
  let v231 : BitVec 32 := Scalar.select v229 v230 v224
  let c3_i32_118 : BitVec 32 := 3#32
  let v243 : BitVec 32 := Scalar.subi c3_i32_118 v231
  let v244 : BitVec 32 := Scalar.select v242 v231 v243
  let v270 : BitVec 32 := Scalar.muli c8_i32_134 v244
  let c2_i32_119 : BitVec 32 := 2#32
  let v245 : BitVec 32 := Scalar.muli c2_i32_119 v221
  let c0_i32_120 : BitVec 32 := 0#32
  let v246 : BitVec 1 := Scalar.cmpi .eq v201 c0_i32_120
  let c2_i32_121 : BitVec 32 := 2#32
  let c0_i32_122 : BitVec 32 := 0#32
  let v247 : BitVec 1 := Scalar.cmpi .eq c2_i32_121 c0_i32_122
  let c1_i32_123 : BitVec 32 := 1#32
  let v248 : BitVec 32 := Scalar.select v247 c1_i32_123 c2_i32_121
  let v249 : BitVec 32 := Scalar.remsi v221 v248
  let c0_i32_125 : BitVec 32 := 0#32
  let v251 : BitVec 1 := Scalar.cmpi .slt v249 c0_i32_125
  let c0_i32_126 : BitVec 32 := 0#32
  let v252 : BitVec 1 := Scalar.cmpi .slt v248 c0_i32_126
  let v253 : BitVec 1 := Scalar.xori v251 v252
  let c0_i32_124 : BitVec 32 := 0#32
  let v250 : BitVec 1 := Scalar.cmpi .ne v249 c0_i32_124
  let v254 : BitVec 1 := Scalar.andi v253 v250
  let v255 : BitVec 32 := Scalar.addi v249 v248
  let v256 : BitVec 32 := Scalar.select v254 v255 v249
  let c1_i32_133 : BitVec 32 := 1#32
  let c2_i32_127 : BitVec 32 := 2#32
  let c0_i32_128 : BitVec 32 := 0#32
  let v257 : BitVec 1 := Scalar.cmpi .eq c2_i32_127 c0_i32_128
  let c1_i32_129 : BitVec 32 := 1#32
  let v258 : BitVec 32 := Scalar.select v257 c1_i32_129 c2_i32_127
  let v259 : BitVec 32 := Scalar.remsi v221 v258
  let c0_i32_131 : BitVec 32 := 0#32
  let v261 : BitVec 1 := Scalar.cmpi .slt v259 c0_i32_131
  let c0_i32_132 : BitVec 32 := 0#32
  let v262 : BitVec 1 := Scalar.cmpi .slt v258 c0_i32_132
  let v263 : BitVec 1 := Scalar.xori v261 v262
  let c0_i32_130 : BitVec 32 := 0#32
  let v260 : BitVec 1 := Scalar.cmpi .ne v259 c0_i32_130
  let v264 : BitVec 1 := Scalar.andi v263 v260
  let v265 : BitVec 32 := Scalar.addi v259 v258
  let v266 : BitVec 32 := Scalar.select v264 v265 v259
  let v267 : BitVec 32 := Scalar.subi c1_i32_133 v266
  let v268 : BitVec 32 := Scalar.select v246 v256 v267
  let v269 : BitVec 32 := Scalar.addi v245 v268
  let v271 : BitVec 32 := Scalar.addi v270 v269
  let c1_i32_7125 : BitVec 32 := 1#32
  let v8116 : BitVec 32 := Scalar.muli v271 c1_i32_7125
  let v8117 : BitVec 32 := Scalar.addi c0_i32_7126 v8116
  v8117.toNat
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Ops.lean ====
/-
  The kernel body as a list of steps. A STREAM is a pair (direction, half): `false`/`true` for the direction
  (`false` sends to the right neighbour, `true` to the left) and for which 64 rows of the block it carries.
  At hop `h` a stream waits for its previous transfer and for the one that lands here, hands the freed slot back
  upstream, waits for its own credit, sends on, and multiplies what landed. `steps` lists these in the order the
  kernel runs them; `body_eq` says the printed body is that list.
-/
module

public import proofs.«01_k».proof.Defs
public import Idealize.ShloMosaic.Lib.Pipeline.Launch
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen
open Idealize.ShloMosaic Idealize.ShloMosaic.TcCoe
open Idealize.SL Idealize.SL.Sem

variable {F : FTy → Type} [FloatOps F]

/-! ## The kernel's buffers and semaphores -/

/-- The staging buffers of `x`, of `w` and of the result, and the landing slots, whole. -/
abbrev xM : Memref sig .tc .vmem S128x4096 .f32 := Memref.whole cc0_stg0_0
abbrev wM : Memref sig .tc .vmem S4096x64 .f32 := Memref.whole cc0_stg1_0
abbrev oM : Memref sig .tc .vmem S4096x64 .f32 := Memref.whole cc0_stg2_0
abbrev sM : Memref sig .tc .vmem S2x2x3x64x4096 .f32 := Memref.whole cc0_scratch0

/-- Which of a stream's three slots (and of its three semaphore pairs) hop `h` uses. -/
def ph (h : ℕ) : Fin 3 := ⟨h % 3, Nat.mod_lt _ (by decide)⟩

theorem inbSlot : ∀ (d c : Bool) (k : Fin 3) (a : Fin S2x2x3x64x4096.rank),
    (![d.toNat, c.toNat, k.val, 0, 0] : Fin 5 → ℕ) a + S1x1x1x64x4096.size a ≤ S2x2x3x64x4096.size a := by decide +kernel
theorem inbSem : ∀ (d c : Bool) (k : Fin 3) (a : Fin S2x2x3.rank),
    (![d.toNat, c.toNat, k.val] : Fin 3 → ℕ) a + S1x1x1.size a ≤ S2x2x3.size a := by decide +kernel
theorem inbHalf : ∀ (c : Bool) (a : Fin S128x4096.rank),
    (![64 * c.toNat, 0] : Fin 2 → ℕ) a + S64x4096.size a ≤ S128x4096.size a := by decide +kernel

/-- Slot `k` of stream `(d, c)`, as one block of 64 rows. -/
def slotM (d c : Bool) (k : Fin 3) : Memref sig .tc .vmem S64x4096 .f32 :=
  (sM.slice (Rect.unit (s := S2x2x3x64x4096) ![d.toNat, c.toNat, k.val, 0, 0] S1x1x1x64x4096.size (inbSlot d c k)) (fun _ => rfl)).squeeze
    S64x4096 squeezes_S1x1x1x64x4096_S64x4096
/-- Half `c` of the device's own block of `x`. -/
def halfM (c : Bool) : Memref sig .tc .vmem S64x4096 .f32 :=
  xM.slice (Rect.unit (s := S128x4096) ![64 * c.toNat, 0] S64x4096.size (inbHalf c)) (fun _ => rfl)

/-- The send and the receive semaphore `k` of stream `(d, c)`. -/
def sSem (d c : Bool) (k : Fin 3) : DmaSem sig :=
  ((cc0_scratch1.slice (Rect.unit (s := S2x2x3) ![d.toNat, c.toNat, k.val] S1x1x1.size (inbSem d c k))).squeeze S_ squeezes_S1x1x1_S_).sem
def rSem (d c : Bool) (k : Fin 3) : DmaSem sig :=
  ((cc0_scratch2.slice (Rect.unit (s := S2x2x3) ![d.toNat, c.toNat, k.val] S1x1x1.size (inbSem d c k))).squeeze S_ squeezes_S1x1x1_S_).sem
/-- Stream `(d, c)`'s credit semaphore. -/
def cSem : Bool → Bool → Sem sig
  | false, false => cc0_scratch3.sem
  | false, true => cc0_scratch4.sem
  | true, false => cc0_scratch5.sem
  | true, true => cc0_scratch6.sem
/-- The barrier semaphore. -/
def bSem : Sem sig := (SemArray.scalar (sig.barrier 0 rfl) : Sems sig S_).sem

/-- What hop `h` sends: the device's own half at hop 0, the slot that landed one hop before after that. -/
def srcM (d c : Bool) : ℕ → Memref sig .tc .vmem S64x4096 .f32
  | 0 => halfM c
  | h + 1 => slotM d c (ph (h + 1))

theorem slotM_exact (d c : Bool) (k : Fin 3) : (slotM d c k).view.WordExact := (View.wordExact_bits rfl).reshape _ _
theorem slotM_notSc (d c : Bool) (k : Fin 3) : (slotM d c k).view.ref.isScScratch = false := rfl
theorem halfM_exact (c : Bool) : (halfM c).view.WordExact := View.wordExact_bits rfl
theorem srcM_exact (d c : Bool) : ∀ h, (srcM d c h).view.WordExact
  | 0 => halfM_exact c
  | h + 1 => slotM_exact d c _

/-- A transfer between two blocks of these kinds completes on DMA semaphores, whichever they are. -/
theorem dmaTyped (n : Dev nD) (dst : Memref sig .tc .vmem S64x4096 .f32) (hsc : dst.view.ref.isScScratch = false) (q q' : DmaSem sig) :
    (DmaTarget.remote (p := (Proc.tc : Proc τ)) (Dev.tc n) dst (.dma q) hsc).Typed .vmem (.dma q') := ⟨⟨rfl, Or.inl rfl⟩, trivial⟩

/-! ## The neighbours -/

/-- The device a stream of direction `d` sends to, as the kernel computes it; -/
def toward (d0 : Dev nD) : Bool → Dev nD
  | false => ⟨k0_dev2 d0, k0_dev2_lt d0⟩
  | true => ⟨k0_dev1 d0, k0_dev1_lt d0⟩
/-- the device it receives from. -/
def away (d0 : Dev nD) (d : Bool) : Dev nD := toward d0 (!d)

/-- Where the result of hop `i + 1` of stream `(d, c)` goes. -/
def cmpOff (d0 : Dev nD) : Bool → Bool → ℕ → Fin 2 → ℕ
  | false, c, i => k0_off2 d0 (BitVec.ofNat 32 i) (BitVec.ofNat 32 (64 * c.toNat))
  | true, c, i => k0_off3 d0 (BitVec.ofNat 32 i) (BitVec.ofNat 32 (64 * c.toNat))

theorem cmpOff_inb : ∀ (d0 : Dev nD) (d c : Bool) (i : Fin 16) (a : Fin S4096x64.rank),
    cmpOff d0 d c i.val a + S64x64.size a ≤ S4096x64.size a := by decide +kernel

/-! ## The values stored -/

/-- The kernel's activation of a block of products. -/
def geluK (s : Shape) (y : FVec F s .f32) : FVec F s .f32 :=
  mulf (mulf (broadcast s (Scalar.ofBits .f32 0x3F000000#32)) y)
    (addf (broadcast s (Scalar.ofBits .f32 0x3F800000#32))
      (tanh (mulf (broadcast s (Scalar.ofBits .f32 0x3F4C422A#32))
        (addf y (mulf (mulf (mulf (broadcast s (Scalar.ofBits .f32 0x3D372713#32)) y) y) y)))))

/-- A landed block times `w`, activated: what hop `i + 1` stores. -/
def payC (v : Vec F S1x1x1x64x4096 .f32) (w : Vec F S4096x64 .f32) : FVec F S64x64 .f32 :=
  geluK S64x64 (matmul dot_S64x4096_S4096x64_S64x64_1_0_0_1_n_n none (shapeCast S64x4096 v shapeCasts_S1x1x1x64x4096_S64x4096)
    (shapeCast S4096x64 w shapeCasts_S4096x64_S4096x64) (constant S64x64 .f32 0x00000000#32))

/-- The device's own block times `w`, activated. -/
def pay0 (v : Vec F S128x4096 .f32) (w : Vec F S4096x64 .f32) : FVec F S128x64 .f32 :=
  geluK S128x64 (matmul dot_S128x4096_S4096x64_S128x64_1_0_0_1_n_n none (shapeCast S128x4096 v shapeCasts_S128x4096_S128x4096)
    (shapeCast S4096x64 w shapeCasts_S4096x64_S4096x64) (constant S128x64 .f32 0x00000000#32))

/-! ## The steps -/

/-- One step of the body. `bSig d` signals the barrier of the neighbour in direction `d`; the others are named by
    stream and by the hop (or the credit) they are about. -/
inductive Step where
  | bSig (d : Bool)
  | bWait
  | wSend (d c : Bool) (h : ℕ)
  | wRecv (d c : Bool) (h : ℕ)
  | credit (d c : Bool) (j : ℕ)
  | wCredit (d c : Bool) (j : ℕ)
  | send (d c : Bool) (h : ℕ)
  | own
  | mult (d c : Bool) (i : Fin 16)

/-- The whole-buffer accesses. -/
abbrev rX : Rect S128x4096 := Rect.unit (s := S128x4096) ![0, 0] S128x4096.size inb_S128x4096_S128x4096_0_0
abbrev rW : Rect S4096x64 := Rect.unit (s := S4096x64) ![0, 0] S4096x64.size inb_S4096x64_S4096x64_0_0
/-- One landed slot, as the kernel loads it; the rows of the result a step stores. -/
abbrev rS (d c : Bool) (k : Fin 3) : Rect S2x2x3x64x4096 :=
  Rect.unit (s := S2x2x3x64x4096) ![d.toNat, c.toNat, k.val, 0, 0] S1x1x1x64x4096.size (inbSlot d c k)
abbrev rO (d0 : Dev nD) (d c : Bool) (i : Fin 16) : Rect S4096x64 :=
  Rect.unit (s := S4096x64) (cmpOff d0 d c i.val) S64x64.size (cmpOff_inb d0 d c i)
abbrev rO0 (d0 : Dev nD) : Rect S4096x64 := Rect.unit (s := S4096x64) (k0_off1 d0) S128x64.size (k0_off1_inb d0)

/-- What one step does, then the rest. -/
def exec (d0 : Dev nD) (k : Prog (TpuEff nD τ sig (Elt F) Λ₀ .tc) PUnit) : Step → Prog (TpuEff nD τ sig (Elt F) Λ₀ .tc) PUnit
  | .bSig d => .op (.semSignal ((toward d0 d, .tc) : Thread nD τ) bSem (1#32).toInt) fun _ => k
  | .bWait => .op (.semWait bSem (2#32).toInt) fun _ => k
  | .wSend d c h => .op (.waitDma2 (sSem d c (ph h)) (slotM d c (ph (h + 1))) (srcM d c h) (slotM_exact _ _ _) (srcM_exact _ _ _)) fun _ => k
  | .wRecv d c h => .op (.waitDma2 (rSem d c (ph (h + 1))) (srcM d c h) (slotM d c (ph (h + 1))) (srcM_exact _ _ _) (slotM_exact _ _ _)) fun _ => k
  | .credit d c _ => .op (.semSignal ((away d0 d, .tc) : Thread nD τ) (cSem d c) (1#32).toInt) fun _ => k
  | .wCredit d c _ => .op (.semWait (cSem d c) (1#32).toInt) fun _ => k
  | .send d c h => .op (.enqueueDma (srcM d c h) (.remote (Dev.tc (toward d0 d)) (slotM d c (ph (h + 1))) (.dma (sSem d c (ph h))) (slotM_notSc _ _ _))
      (.dma (rSem d c (ph (h + 1)))) (srcM_exact _ _ _) (slotM_exact _ _ _) (dmaTyped _ _ _ _ _)) fun _ => k
  | .own => .op (.load xM rX.toLoadRect (View.loadsAt_vmem h_S128x4096)) fun (x : Vec F S128x4096 .f32) =>
      .op (.load wM rW.toLoadRect (View.loadsAt_vmem h_S4096x64)) fun (w : Vec F S4096x64 .f32) =>
      .op (.load oM (rO0 d0).toLoadRect (View.loadsAt_vmem h_S128x64)) fun (_ : Vec F S128x64 .f32) =>
      .op (.store oM (rO0 d0) (pay0 x w) Finset.univ (View.stores_vmem_bits_univ h_S128x64 rfl) (.inl rfl)) fun _ => k
  | .mult d c i => .op (.load sM (rS d c (ph (i.val + 1))).toLoadRect (View.loadsAt_vmem h_S1x1x1x64x4096)) fun (v : Vec F S1x1x1x64x4096 .f32) =>
      .op (.load wM rW.toLoadRect (View.loadsAt_vmem h_S4096x64)) fun (w : Vec F S4096x64 .f32) =>
      .op (.load oM (rO d0 d c i).toLoadRect (View.loadsAt_vmem h_S64x64)) fun (_ : Vec F S64x64 .f32) =>
      .op (.store oM (rO d0 d c i) (payC v w) Finset.univ (View.stores_vmem_bits_univ h_S64x64 rfl) (.inl rfl)) fun _ => k

/-- A list of steps, run in order. -/
def run (d0 : Dev nD) : List Step → Prog (TpuEff nD τ sig (Elt F) Λ₀ .tc) PUnit
  | [] => .ret ⟨⟩
  | a :: l => exec d0 (run d0 l) a

/-- How many hops stream `(d, c)` makes. -/
def hops : Bool → Bool → ℕ
  | false, false => 16
  | false, true => 15
  | true, false => 15
  | true, true => 16

/-- What stream `(d, c)` does at hop `h` before any product: nothing waits at hop 0, nothing is sent at its last hop;
    it hands back slots only for hops still to come. -/
def prep (d c : Bool) (h : ℕ) : List Step :=
  (if 1 ≤ h ∧ h ≤ hops d c then [.wSend d c (h - 1), .wRecv d c (h - 1)] else [])
    ++ ((if 1 ≤ h ∧ h + 2 ≤ hops d c then [.credit d c (h - 1)] else [])
    ++ ((if 2 ≤ h ∧ h < hops d c then [.wCredit d c (h - 2)] else [])
    ++ (if h < hops d c then [.send d c h] else [])))

/-- The product of what landed at hop `h`, if one did. -/
def multAt (d c : Bool) (h : ℕ) : List Step :=
  if hh : 1 ≤ h ∧ h ≤ hops d c then [.mult d c ⟨h - 1, by cases d <;> cases c <;> simp [hops] at hh <;> omega⟩] else []

/-- Hop `h`, all streams. -/
def hop (h : ℕ) : List Step :=
  prep false false h ++ (prep true true h ++ (prep false true h ++ (prep true false h
    ++ (if h = 0 then [.own]
        else multAt false false h ++ (multAt true true h ++ (multAt false true h ++ multAt true false h))))))

/-- The hops from `h` on, `n` of them. -/
def hopsFrom : ℕ → ℕ → List Step
  | 0, _ => []
  | n + 1, h => hop h ++ hopsFrom n (h + 1)

/-- The whole body after the device id is read. -/
def steps : List Step := .bSig true :: .bSig false :: .bWait :: hopsFrom 17 0

end Cert.Proof

end
-- ==== Proof.Common.lean ====
/-
  The protocol. Every stream `(d, e)` moves blocks around the ring of devices through three landing slots per device.
  CELLS, per device: the barrier (two units, one from each neighbour: the neighbour's landing slots 1 and 2 of the
  streams this device feeds); per stream and slot a send cell (the block just read is the sender's again) and a receive
  cell (the slot holds the block of the device `h + 1` places upstream); per stream a credit cell (unit `j`: the receiver
  has put slot `j mod 3` back, and every slot before it). A freed slot waits in an invariant (`slotOf`), keyed by the
  receiver, the stream and the number of the credit: the unit only carries the fact that it is there, since the credit
  semaphore is one counter and its units may arrive ahead of the sender's waits.
-/
module

public import proofs.«01_k».proof.Proof.Ops
public import Idealize.ShloMosaic.Lib.Pipeline.Kit
public import Idealize.ShloMosaic.Lib.Pipeline.BigSepL
public import Idealize.ShloMosaic.Lib.MemrefSat
public import Idealize.ShloMosaic.Lib.Release
public import Idealize.ShloMosaic.Lib.Rounds

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation)

variable {F : FTy → Type} [FloatOps F]

/-! ## The resource algebra -/

/-- A freed slot's name: the receiving device, the stream, the number of the credit. -/
abbrev Key : Type := Dev nD × Bool × Bool × ℕ
/-- The rounds of the kernel's own cells. -/
abbrev UB : Type := URounds (GSem nD τ sig) ℕ
/-- The pipeline's rounds, the kernel's rounds, the freed slots. -/
abbrev UU : Type := UR sig nD τ × (UB × USlots Key)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) := (Emb.inl : Emb UB (UB × USlots Key)).trans embR
def ES : Emb (USlots Key) (MT nD τ sig ℕ (Elt F) ℕ UU ℕ) := (Emb.inr : Emb (USlots Key) (UB × USlots Key)).trans embR

instance ER_landsIn : (ER : Emb UB (MT nD τ sig ℕ (Elt F) ℕ UU ℕ)).LandsIn (upEmb : UEmb _ 𝕄) := by unfold ER; infer_instance
instance ES_landsIn : (ES : Emb (USlots Key) (MT nD τ sig ℕ (Elt F) ℕ UU ℕ)).LandsIn (upEmb : UEmb _ 𝕄) := by unfold ES; infer_instance

/-! ## The ring -/

theorem away_toward (c : Dev nD) (d : Bool) : away (toward c d) d = c := by
  revert c d; decide +kernel
theorem toward_away (c : Dev nD) (d : Bool) : toward (away c d) d = c := by
  revert c d; decide +kernel
theorem toward_inj (d : Bool) : Function.Injective fun c : Dev nD => toward c d :=
  Function.LeftInverse.injective (g := fun c => away c d) fun c => away_toward c d

/-- The device `n` places upstream of `c`. -/
def up (d : Bool) : ℕ → Dev nD → Dev nD
  | 0, c => c
  | n + 1, c => up d n (away c d)

theorem up_succ (d : Bool) (n : ℕ) (c : Dev nD) : up d (n + 1) c = up d n (away c d) := by rw [up]

/-- One place upstream, as a number added. -/
def upStep (d : Bool) : ℕ := if d then 1 else 31
/-- The device at place `p` of the ring, which winds through the mesh; -/
def permN (p : ℕ) : ℕ :=
  let q := if p / 16 = 0 then p else 31 - p
  let z := if q / 4 % 2 = 0 then q % 4 else 3 - q % 4
  8 * z + (2 * (q / 4) + (if p / 16 = 0 then q / 4 % 2 else 1 - q / 4 % 2))
/-- the place of device `l`. -/
def invN (l : ℕ) : ℕ :=
  let q := 4 * (l % 8 / 2) + (if l % 8 / 2 % 2 = 0 then l / 8 else 3 - l / 8)
  if (l % 8 + 1) / 2 % 2 = 0 then q else 31 - q
theorem permN_invN : ∀ c : Dev nD, permN (invN c.val) = c.val := by decide +kernel
theorem invN_lt : ∀ c : Dev nD, invN c.val < 32 := by decide +kernel
theorem away_place : ∀ (c : Dev nD) (d : Bool), invN (away c d).val = (invN c.val + upStep d) % 32 := by decide +kernel
theorem up_place (d : Bool) : ∀ (n : ℕ) (c : Dev nD), invN (up d n c).val = (invN c.val + upStep d * n) % 32
  | 0, c => (Nat.mod_eq_of_lt (invN_lt c)).symm
  | n + 1, c => by
      show invN (up d n (away c d)).val = _
      rw [up_place d n, away_place, Nat.mod_add_mod, Nat.mul_succ, Nat.add_assoc, Nat.add_comm (upStep d)]

theorem cmpOff_place : ∀ (c : Dev nD) (d e : Bool) (i : Fin 16),
    cmpOff c d e i.val = ![128 * permN ((invN c.val + upStep d * (i.val + 1)) % 32) + 64 * e.toNat, 0] := by
  decide +kernel
theorem cmpOff_eq (c : Dev nD) (d e : Bool) (i : Fin 16) : cmpOff c d e i.val = ![128 * (up d (i.val + 1) c).val + 64 * e.toNat, 0] := by
  rw [cmpOff_place, ← up_place, permN_invN]
theorem up_ne (c : Dev nD) (d : Bool) (i : Fin 16) : up d (i.val + 1) c ≠ c := by
  intro h
  have h1 := congrArg (fun x : Dev nD => invN x.val) h
  simp only [up_place] at h1
  have hc := invN_lt c
  have hi := i.isLt
  cases d <;> simp only [upStep] at h1 <;> simp at h1 <;> omega

/-! ## The cells -/

/-- The kinds of the kernel's own semaphores: send and receive per stream and slot, credit per stream; -/
abbrev Ok : Type := (Bool × Bool × Fin 3) ⊕ (Bool × Bool × Fin 3) ⊕ (Bool × Bool)
/-- and the barrier. -/
abbrev Kd : Type := Option Ok
abbrev kB : Kd := none
abbrev kS (d e : Bool) (k : Fin 3) : Kd := some (.inl (d, e, k))
abbrev kR (d e : Bool) (k : Fin 3) : Kd := some (.inr (.inl (d, e, k)))
abbrev kC (d e : Bool) : Kd := some (.inr (.inr (d, e)))

/-- The kernel's own semaphores, as the launch indexes them, -/
def osem : Ok → SemLoc sig
  | .inl (d, e, k) => .dma (sSem d e k)
  | .inr (.inl (d, e, k)) => .dma (rSem d e k)
  | .inr (.inr (d, e)) => .reg (cSem d e)
/-- and all of the protocol's. -/
def locOf : Kd → SemLoc sig
  | none => .reg bSem
  | some k => osem k

instance (x : Kd × Kd) : Decidable (locOf x.1 = locOf x.2 → x.1 = x.2) := inferInstance
theorem locOf_inj : Function.Injective locOf := by
  have h : ∀ x : Kd × Kd, locOf x.1 = locOf x.2 → x.1 = x.2 := by decide +kernel
  exact fun a b => h (a, b)

abbrev cell (c : Dev nD) (k : Kd) : GSem nD τ sig := ((c : Thread nD τ), locOf k)

theorem cell_eq_iff {c c' : Dev nD} {k k' : Kd} : cell c k = cell c' k' ↔ c = c' ∧ k = k' := by
  constructor
  · intro h
    exact ⟨congrArg (fun g : GSem nD τ sig => g.1.1) h, locOf_inj (congrArg Prod.snd h)⟩
  · rintro ⟨rfl, rfl⟩; rfl

/-- Which kind a semaphore is, if one of the protocol's. -/
def kindOf (l : SemLoc sig) : Option Kd := Function.partialInv locOf l
theorem kindOf_locOf (k : Kd) : kindOf (locOf k) = some k := Function.partialInv_left locOf_inj k

/-! ## Amounts -/

/-- What one transfer credits. -/
def N : ℕ := (slotM false false 0).view.dmaCredit
theorem N_pos : 0 < N := View.dmaCredit_pos _ (by decide)
theorem slot_credit (d e : Bool) (k : Fin 3) : (slotM d e k).view.dmaCredit = N := rfl
theorem half_credit (e : Bool) : (halfM e).view.dmaCredit = N := rfl
theorem src_credit (d e : Bool) : ∀ h, (srcM d e h).view.dmaCredit = N
  | 0 => half_credit e
  | _ + 1 => slot_credit _ _ _

theorem ph_mul (h : ℕ) : 3 * (h / 3) + (ph h).val = h := by simp only [ph]; omega
theorem ph_mul' (h : ℕ) : 3 * (h / 3) + ((ph (h + 1)).val + 2) % 3 = h := by simp only [ph]; omega
theorem ph_add (h : ℕ) : ph (h + 3) = ph h := Fin.ext (by simp only [ph]; omega)

/-! ## Contents -/

section Contents

variable (m : (ℓ : Loc nD τ sig) → Buf (Elt F) ℓ)

/-- The device's own block of `x` and its columns of `w`, as staged. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- What stream `(d, e)` brings `c` at hop `h - 1`: half `e` of the block of the device `h` places upstream. -/
def val (c : Dev nD) (d e : Bool) (h : ℕ) : S64x4096.Idx → Elt F .f32 :=
  (halfM e).view.read (Elt F) (xstg m (up d h c))

theorem val_toward (c : Dev nD) (d e : Bool) (h : ℕ) : val m (toward c d) d e (h + 1) = val m c d e h := by
  unfold val; rw [up_succ, away_toward]

end Contents

/-! ## Points-to forms -/

/-- Which share of its block of `x` a device lends to direction `d`; -/
def xq : Bool → PosShare TreeShare
  | false => fullShare.right.left
  | true => fullShare.right.right
/-- what hop `h` lends of what it sends. -/
def sq (d : Bool) : ℕ → PosShare TreeShare
  | 0 => xq d
  | _ + 1 => fullShare.left

/-- Slot `k` of stream `(d, e)` on `c`, at some contents. -/
def anyS (c : Dev nD) (d e : Bool) (k : Fin 3) : sProp 𝕄 :=
  iprop(∃ f : Buf (Elt F) ((slotM d e k).view.loc (c : Thread nD τ)),
    (slotM d e k).view.loc (c : Thread nD τ) ↦[(slotM d e k).view.set]{fullShare} f)

instance anyS_storable (c : Dev nD) (d e : Bool) (k : Fin 3) : BI.Storable (upEmb : UEmb _ 𝕄) (anyS (F := F) c d e k) := by
  unfold anyS; infer_instance

theorem anyS_of_owns (c : Dev nD) (d e : Bool) (k : Fin 3) (X : S64x4096.Idx → Elt F .f32) :
    (owns (c : Thread nD τ) (slotM d e k) fullShare X : sProp 𝕄) ⊢ anyS c d e k := by
  unfold owns anyS
  iintro ⟨%f, -, H⟩
  iexists f; iexact H

/-- The two landing slots of a stream a device hands the device that fills them. -/
def lend (c : Dev nD) (d e : Bool) : sProp 𝕄 := iprop(anyS c d e 1 ∗ anyS c d e 2)
instance lend_storable (c : Dev nD) (d e : Bool) : BI.Storable (upEmb : UEmb _ 𝕄) (lend (F := F) c d e) := by
  unfold lend; infer_instance

/-- The first `n` freed slots of a stream are there. -/
def rel (c : Dev nD) (d e : Bool) (n : ℕ) : sProp 𝕄 := bigSep (Finset.range n) fun j => released ES ((c, d, e, j) : Key) 1
instance rel_storable (c : Dev nD) (d e : Bool) (n : ℕ) : BI.Storable (upEmb : UEmb _ 𝕄) (rel (F := F) c d e n) := by
  unfold rel; infer_instance
instance rel_persistent (c : Dev nD) (d e : Bool) (n : ℕ) : BI.Persistent (rel (F := F) c d e n) := by
  unfold rel; infer_instance

/-- What waits in the invariant of a freed slot: the slot, and that its receive cell stands at the round the next
    landing there pays. -/
def slotOf (k : Key) : sProp 𝕄 :=
  iprop(anyS k.1 k.2.1 k.2.2.1 (ph k.2.2.2) ∗ reached ER (cell k.1 (kR k.2.1 k.2.2.1 (ph k.2.2.2))) ((k.2.2.2 + 2) / 3))
instance slotOf_storable (k : Key) : BI.Storable (upEmb : UEmb _ 𝕄) (slotOf (F := F) k) := by
  unfold slotOf; infer_instance

/-! ## The schedule -/

section Schedule

variable (m : (ℓ : Loc nD τ sig) → Buf (Elt F) ℓ)

def dutiesK : Kd → ℕ → Finset ℕ
  | none, r => if r = 0 then {0, 1} else ∅
  | some (.inl (d, e, k)), r => if 3 * r + k.val < hops d e then {0} else ∅
  | some (.inr (.inl (d, e, k))), r => if 3 * r + (k.val + 2) % 3 < hops d e then {0} else ∅
  | some (.inr (.inr (d, e))), r => if r = 0 then Finset.range (hops d e - 2) else ∅

def amountK : Kd → ℕ
  | none => 1
  | some (.inl _) => N
  | some (.inr (.inl _)) => N
  | some (.inr (.inr _)) => 1
theorem amountK_pos : ∀ k, 0 < amountK k
  | none => Nat.one_pos
  | some (.inl _) => N_pos
  | some (.inr (.inl _)) => N_pos
  | some (.inr (.inr _)) => Nat.one_pos

/-- What the neighbour that signals in direction `d` brings `c`'s barrier: its slots 1 and 2 of the streams `c` feeds there. -/
def barPay (c : Dev nD) (d : Bool) : sProp 𝕄 := iprop(lend (away c d) (!d) false ∗ lend (away c d) (!d) true)

def payK (c : Dev nD) : Kd → ℕ → ℕ → sProp 𝕄
  | none, _, δ => barPay c (decide (δ = 1))
  | some (.inl (d, e, k)), r, _ => owns (c : Thread nD τ) (srcM d e (3 * r + k.val)) (sq d (3 * r + k.val)) (val m c d e (3 * r + k.val))
  | some (.inr (.inl (d, e, k))), r, _ => owns (c : Thread nD τ) (slotM d e k) fullShare (val m c d e (3 * r + (k.val + 2) % 3 + 1))
  | some (.inr (.inr (d, e))), _, δ => rel (toward c d) d e (δ + 1)

instance payK_storable (c : Dev nD) (k : Kd) (r δ : ℕ) : BI.Storable (upEmb : UEmb _ 𝕄) (payK m c k r δ) := by
  rcases k with _ | ⟨d, e, k⟩ | ⟨d, e, k⟩ | ⟨d, e⟩
  · show BI.Storable upEmb (barPay c (decide (δ = 1))); unfold barPay; infer_instance
  · show BI.Storable upEmb (owns _ _ _ _); infer_instance
  · show BI.Storable upEmb (owns _ _ _ _); infer_instance
  · show BI.Storable upEmb (rel _ _ _ _); infer_instance

def Rd : Rounds.Schedule (GSem nD τ sig) ℕ 𝕄 where
  duties g r := if g.1.2 = .tc then (match kindOf g.2 with | some k => dutiesK k r | none => ∅) else ∅
  unitless _ := False
  amount g _ _ := match kindOf g.2 with | some k => amountK k | none => 1
  payload g r δ := match kindOf g.2 with | some k => payK m g.1.1 k r δ | none => iprop(emp)
  amount_pos g _ _ _ := by
    split
    · exact amountK_pos _
    · exact Nat.one_pos

instance Rd_payload_storable (g : GSem nD τ sig) (r δ : ℕ) : BI.Storable (upEmb : UEmb _ 𝕄) ((Rd (F := F) m).payload g r δ) := by
  show BI.Storable upEmb (match kindOf g.2 with | some k => payK m g.1.1 k r δ | none => iprop(emp))
  split <;> infer_instance

theorem duties_cell (c : Dev nD) (k : Kd) (r : ℕ) : (Rd (F := F) m).duties (cell c k) r = dutiesK k r := by
  dsimp only [Rd, cell]; rw [if_pos rfl, kindOf_locOf]
theorem amount_cell (c : Dev nD) (k : Kd) (r δ : ℕ) : (Rd (F := F) m).amount (cell c k) r δ = amountK k := by
  dsimp only [Rd, cell]; rw [kindOf_locOf]
theorem payload_cell (c : Dev nD) (k : Kd) (r δ : ℕ) : (Rd (F := F) m).payload (cell c k) r δ = payK m c k r δ := by
  dsimp only [Rd, cell]; rw [kindOf_locOf]
theorem expect_cell (c : Dev nD) (k : Kd) (r : ℕ) : (Rd (F := F) m).expect (cell c k) r = (dutiesK k r).card * amountK k := by
  unfold Schedule.expect Schedule.amountOf
  rw [duties_cell, Finset.sum_congr rfl fun δ _ => amount_cell m c k r δ, Finset.sum_const, smul_eq_mul]

/-- Hop `h`'s round of its send cell and of the receive cell it pays. -/
theorem duties_snd (d e : Bool) (h : ℕ) (hh : h < hops d e) : dutiesK (kS d e (ph h)) (h / 3) = {0} := by
  show (if 3 * (h / 3) + (ph h).val < hops d e then ({0} : Finset ℕ) else ∅) = {0}
  rw [ph_mul, if_pos hh]
theorem duties_rcv (d e : Bool) (h : ℕ) (hh : h < hops d e) : dutiesK (kR d e (ph (h + 1))) (h / 3) = {0} := by
  show (if 3 * (h / 3) + ((ph (h + 1)).val + 2) % 3 < hops d e then ({0} : Finset ℕ) else ∅) = {0}
  rw [ph_mul', if_pos hh]
theorem pay_snd (c : Dev nD) (d e : Bool) (h δ : ℕ) :
    payK m c (kS d e (ph h)) (h / 3) δ = owns (c : Thread nD τ) (srcM d e h) (sq d h) (val m c d e h) := by
  show (owns (c : Thread nD τ) (srcM d e (3 * (h / 3) + (ph h).val)) (sq d (3 * (h / 3) + (ph h).val)) (val m c d e (3 * (h / 3) + (ph h).val)) : sProp 𝕄) = _
  rw [ph_mul]
theorem pay_rcv (c : Dev nD) (d e : Bool) (h δ : ℕ) :
    payK m c (kR d e (ph (h + 1))) (h / 3) δ = owns (c : Thread nD τ) (slotM d e (ph (h + 1))) fullShare (val m c d e (h + 1)) := by
  show (owns (c : Thread nD τ) (slotM d e (ph (h + 1))) fullShare (val m c d e (3 * (h / 3) + ((ph (h + 1)).val + 2) % 3 + 1)) : sProp 𝕄) = _
  rw [ph_mul']

/-- From the round past its last duty on, a cell has none. -/
theorem duties_bar_end (r : ℕ) (hr : 1 ≤ r) : dutiesK kB r = ∅ := if_neg (by omega)
theorem duties_crd_end (d e : Bool) (r : ℕ) (hr : 1 ≤ r) : dutiesK (kC d e) r = ∅ := if_neg (by omega)
theorem duties_snd_end (d e : Bool) (i r : ℕ) (hi : hops d e ≤ i) (hr : i / 3 ≤ r) : dutiesK (kS d e (ph i)) r = ∅ :=
  if_neg (by have := ph_mul i; omega)
theorem duties_rcv_end (d e : Bool) (i r : ℕ) (hi : hops d e ≤ i) (hr : i / 3 ≤ r) : dutiesK (kR d e (ph (i + 1))) r = ∅ :=
  if_neg (by have := ph_mul' i; omega)

end Schedule

end Cert.Proof

end
-- ==== Proof.State.lean ====
/-
  What a device holds while it runs a list of steps: what it still owes, the tokens the steps to come spend, and
  that each wait to come stands below everything owed after it.
-/
module

public import proofs.«01_k».proof.Proof.Common

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation)

variable {F : FTy → Type} [FloatOps F]

local notation "𝕄" => MT nD τ sig ℕ (Elt F) ℕ UU ℕ

abbrev 𝒱₀ : Variants := Variants.none

/-! ## What is owed -/

/-- What step `a` of device `c` pays. -/
def payT (c : Dev nD) : Step → CellTallies nD τ sig ℕ
  | .bSig d => tallyAt (cell (toward c d) kB) 0 1
  | .send d e h => tallyAt (cell (toward c d) (kR d e (ph (h + 1)))) h N
  | .credit d e j => tallyAt (cell (away c d) (kC d e)) j 1
  | _ => 0

/-- What device `c` owes before the steps `l`. -/
def owed (c : Dev nD) : List Step → CellTallies nD τ sig ℕ
  | [] => 0
  | a :: l => owed c l + payT c a

/-! ## Levels -/

/-- The barrier lowest, then by hop: what lands at hop `h`, then the credits of hop `h`. Sends are never waited for by
    another device. -/
def lvK : Kd → ℕ → ℕ
  | none, _ => 1
  | some (.inl _), _ => 0
  | some (.inr (.inl _)), i => 2 * i + 2
  | some (.inr (.inr _)), i => 2 * i + 3
def lv (g : GSem nD τ sig) (i : ℕ) : ℕ := match kindOf g.2 with | some k => lvK k i | none => 0
def L (g : GSem nD τ sig) : Finset ℕ := if g.1.2 = .tc then Finset.range 64 else ∅

theorem L_of_ne (g : GSem nD τ sig) (h : g.1.2 ≠ .tc) : L g = ∅ := if_neg h
theorem L_tc (c : Dev nD) (sm : SemLoc sig) : L ((c : Thread nD τ), sm) = Finset.range 64 := if_pos rfl
theorem lv_cell (c : Dev nD) (k : Kd) (i : ℕ) : lv (cell c k) i = lvK k i := by
  dsimp only [lv, cell]; rw [kindOf_locOf]

def payLev : Step → Option ℕ
  | .bSig _ => some 1
  | .send _ _ h => some (2 * h + 2)
  | .credit _ _ j => some (2 * j + 3)
  | _ => none
def waitLev : Step → Option ℕ
  | .bWait => some 1
  | .wSend _ _ _ => some 0
  | .wRecv _ _ h => some (2 * h + 2)
  | .wCredit _ _ j => some (2 * j + 3)
  | _ => none
def stepIx : Step → ℕ
  | .send _ _ h => h
  | .credit _ _ j => j
  | .wSend _ _ h => h
  | .wRecv _ _ h => h
  | .wCredit _ _ j => j
  | _ => 0

/-- Everything the steps `l` pay stands above `w`. -/
def above (w : ℕ) (l : List Step) : Bool := l.all fun b => match payLev b with | some p => decide (w < p) | none => true
/-- Every wait stands below everything paid after it. -/
def good : List Step → Bool
  | [] => true
  | a :: l => decide (stepIx a < 64) && (match waitLev a with | some w => above w l | none => true) && good l

theorem good_tail {a : Step} {l : List Step} (h : good (a :: l) = true) : good l = true := by
  simp only [good, Bool.and_eq_true] at h; exact h.2
theorem good_ix {a : Step} {l : List Step} (h : good (a :: l) = true) : stepIx a < 64 := by
  simp only [good, Bool.and_eq_true, decide_eq_true_eq] at h; exact h.1.1
theorem good_above {a : Step} {l : List Step} (h : good (a :: l) = true) {w : ℕ} (hw : waitLev a = some w) : above w l = true := by
  simp only [good, Bool.and_eq_true, hw] at h; exact h.1.2
theorem good_ix_mem : ∀ {l : List Step}, good l = true → ∀ b ∈ l, stepIx b < 64
  | _ :: _, h, b, hb => by
      rcases List.mem_cons.mp hb with rfl | hb
      · exact good_ix h
      · exact good_ix_mem (good_tail h) b hb

theorem payT_pos {c : Dev nD} {a : Step} {g : GSem nD τ sig} {i : ℕ} (h : 0 < payT c a g i) :
    g.1.2 = .tc ∧ payLev a = some (lv g i) ∧ i = stepIx a := by
  have key : ∀ (c' : Dev nD) (k : Kd) (j n : ℕ), 0 < (tallyAt (cell c' k) j n : CellTallies nD τ sig ℕ) g i → g = cell c' k ∧ i = j := by
    intro c' k j n hp
    rw [tallyAt_apply] at hp
    by_contra hn
    rw [if_neg hn] at hp
    exact Nat.lt_irrefl 0 hp
  cases a with
  | bSig d => obtain ⟨rfl, rfl⟩ := key _ _ _ _ h; exact ⟨rfl, by rw [lv_cell]; rfl, rfl⟩
  | send d e j => obtain ⟨rfl, rfl⟩ := key _ _ _ _ h; exact ⟨rfl, by rw [lv_cell]; rfl, rfl⟩
  | credit d e j => obtain ⟨rfl, rfl⟩ := key _ _ _ _ h; exact ⟨rfl, by rw [lv_cell]; rfl, rfl⟩
  | bWait => exact absurd h (Nat.lt_irrefl 0)
  | wSend d e j => exact absurd h (Nat.lt_irrefl 0)
  | wRecv d e j => exact absurd h (Nat.lt_irrefl 0)
  | wCredit d e j => exact absurd h (Nat.lt_irrefl 0)
  | own => exact absurd h (Nat.lt_irrefl 0)
  | mult d e j => exact absurd h (Nat.lt_irrefl 0)

theorem owed_pos {c : Dev nD} : ∀ {l : List Step} {g : GSem nD τ sig} {i : ℕ}, 0 < owed c l g i →
    ∃ b ∈ l, g.1.2 = .tc ∧ payLev b = some (lv g i) ∧ i = stepIx b
  | [], g, i, h => absurd h (Nat.lt_irrefl 0)
  | a :: l, g, i, h => by
      have h' : 0 < owed c l g i + payT c a g i := h
      by_cases hl : 0 < owed c l g i
      · obtain ⟨b, hb, h1⟩ := owed_pos hl
        exact ⟨b, List.mem_cons_of_mem _ hb, h1⟩
      · rw [Nat.eq_zero_of_not_pos hl, Nat.zero_add] at h'
        exact ⟨a, List.mem_cons_self, payT_pos h'⟩

/-- A wait at level `w` or below may be made owing what steps above `w` pay. -/
theorem mayWait_of (c : Dev nD) (l : List Step) (w : ℕ) (ha : above w l = true) (hg : good l = true) (sm : SemLoc sig) (ι : ℕ) (hι : ι < 64)
    (hlv : lv ((c : Thread nD τ), sm) ι ≤ w) : (levAts L lv : sProp 𝕄) ⊢ MayWait (c : Thread nD τ) sm ι (owed c l) :=
  MayOwe.of_cut (L := L) (lev := lv) w
    (fun p hp => by rw [Finset.mem_singleton.mp hp, L_tc]; exact Finset.mem_range.mpr hι)
    (fun g u hu => by
      obtain ⟨b, hb, htc, -, rfl⟩ := owed_pos hu
      unfold L; rw [if_pos htc]; exact Finset.mem_range.mpr (good_ix_mem hg b hb))
    (fun p hp => by rw [Finset.mem_singleton.mp hp]; exact hlv)
    (fun g u hu => by
      obtain ⟨b, hb, -, hp, -⟩ := owed_pos hu
      have := List.all_eq_true.mp ha b hb
      rw [hp] at this
      exact of_decide_eq_true this)

theorem mayWait_step {c : Dev nD} {a : Step} {l : List Step} (hg : good (a :: l) = true) {w : ℕ} (hw : waitLev a = some w) (k : Kd)
    (hlv : lvK k (stepIx a) ≤ w) : (levAts L lv : sProp 𝕄) ⊢ MayWait (c : Thread nD τ) (locOf k) (stepIx a) (owed c l) :=
  mayWait_of c l w (good_above hg hw) (good_tail hg) (locOf k) (stepIx a) (good_ix hg) (by rw [lv_cell]; exact hlv)

theorem lvK_snd (d e : Bool) (k : Fin 3) (i : ℕ) : lvK (kS d e k) i = 0 := rfl
theorem lvK_rcv (d e : Bool) (k : Fin 3) (i : ℕ) : lvK (kR d e k) i = 2 * i + 2 := rfl
theorem lvK_crd (d e : Bool) (i : ℕ) : lvK (kC d e) i = 2 * i + 3 := rfl
theorem lvK_bar (i : ℕ) : lvK kB i = 1 := rfl

theorem mayWait_wSend {c : Dev nD} {d e : Bool} {h : ℕ} {l : List Step} (hg : good (.wSend d e h :: l) = true) :
    (levAts L lv : sProp 𝕄) ⊢ MayWait (c : Thread nD τ) (locOf (kS d e (ph h))) h (owed c l) :=
  mayWait_step (a := .wSend d e h) hg (w := 0) rfl (kS d e (ph h)) (lvK_snd _ _ _ _).le
theorem mayWait_wRecv {c : Dev nD} {d e : Bool} {h : ℕ} {l : List Step} (hg : good (.wRecv d e h :: l) = true) :
    (levAts L lv : sProp 𝕄) ⊢ MayWait (c : Thread nD τ) (locOf (kR d e (ph (h + 1)))) h (owed c l) :=
  mayWait_step (a := .wRecv d e h) hg (w := 2 * h + 2) rfl (kR d e (ph (h + 1))) (lvK_rcv _ _ _ _).le
theorem mayWait_wCredit {c : Dev nD} {d e : Bool} {j : ℕ} {l : List Step} (hg : good (.wCredit d e j :: l) = true) :
    (levAts L lv : sProp 𝕄) ⊢ MayWait (c : Thread nD τ) (locOf (kC d e)) j (owed c l) :=
  mayWait_step (a := .wCredit d e j) hg (w := 2 * j + 3) rfl (kC d e) (lvK_crd _ _ _).le
theorem mayWait_bWait {c : Dev nD} {l : List Step} (hg : good (.bWait :: l) = true) :
    (levAts L lv : sProp 𝕄) ⊢ MayWait (c : Thread nD τ) (locOf kB) 0 (owed c l) :=
  mayWait_step (a := .bWait) hg (w := 1) rfl kB (lvK_bar _).le

/-! ## The tokens the steps spend -/

/-- A duty a step pays. -/
inductive Dt where
  | bar (d : Bool)
  | snd (d e : Bool) (h : ℕ)
  | rcv (d e : Bool) (h : ℕ)
  | crd (d e : Bool) (j : ℕ)
deriving DecidableEq
/-- A credit a step waits for. -/
inductive Ct where
  | bar
  | rcv (d e : Bool) (h : ℕ)
  | crd (d e : Bool) (j : ℕ)
deriving DecidableEq

def dutyOf : Step → List Dt
  | .bSig d => [.bar d]
  | .send d e h => [.snd d e h, .rcv d e h]
  | .credit d e j => [.crd d e j]
  | _ => []
def rdrOf : Step → List (Bool × Bool × ℕ)
  | .credit d e j => [(d, e, j)]
  | _ => []
def wrtOf : Step → List (Bool × Bool × ℕ)
  | .wCredit d e j => [(d, e, j)]
  | _ => []
def crdOf : Step → List Ct
  | .bWait => [.bar]
  | .wRecv d e h => [.rcv d e h]
  | .wCredit d e j => [.crd d e j]
  | _ => []

/-- The cell, the round and the number of the duty. -/
def dtAt (c : Dev nD) : Dt → GSem nD τ sig × ℕ × ℕ
  | .bar d => (cell (toward c d) kB, 0, d.toNat)
  | .snd d e h => (cell c (kS d e (ph h)), h / 3, 0)
  | .rcv d e h => (cell (toward c d) (kR d e (ph (h + 1))), h / 3, 0)
  | .crd d e j => (cell (away c d) (kC d e), 0, j)
def ctAt (c : Dev nD) : Ct → CellTallies nD τ sig ℕ
  | .bar => tallyAt (cell c kB) 0 2
  | .rcv d e h => tallyAt (cell c (kR d e (ph (h + 1)))) h N
  | .crd d e j => tallyAt (cell c (kC d e)) j 1

def dutT (c : Dev nD) (x : Dt) : sProp 𝕄 := dutyTok ER (dtAt c x).1 (dtAt c x).2.1 (dtAt c x).2.2
def rdrT (c : Dev nD) (x : Bool × Bool × ℕ) : sProp 𝕄 := readerAt ES ((c, x) : Key) 0
def wrtT (c : Dev nD) (x : Bool × Bool × ℕ) : sProp 𝕄 := writeTok ES ((toward c x.1, x) : Key) 1
def crdT (c : Dev nD) (x : Ct) : sProp 𝕄 := cred (ctAt c x)

def tok (c : Dev nD) (a : Step) : sProp 𝕄 :=
  iprop(bigSepL (dutyOf a) (dutT c) ∗ bigSepL (rdrOf a) (rdrT c) ∗ bigSepL (wrtOf a) (wrtT c) ∗ bigSepL (crdOf a) (crdT c))
def toks (c : Dev nD) (l : List Step) : sProp 𝕄 :=
  iprop(bigSepL (l.flatMap dutyOf) (dutT c) ∗ bigSepL (l.flatMap rdrOf) (rdrT c) ∗ bigSepL (l.flatMap wrtOf) (wrtT c)
    ∗ bigSepL (l.flatMap crdOf) (crdT c))

theorem toks_cons (c : Dev nD) (a : Step) (l : List Step) : (toks c (a :: l) : sProp 𝕄) ⊢ iprop(tok c a ∗ toks c l) := by
  unfold toks tok
  simp only [List.flatMap_cons, bigSepL_append]
  iintro ⟨⟨H1, G1⟩, ⟨H2, G2⟩, ⟨H3, G3⟩, ⟨H4, G4⟩⟩
  isplitl [H1 H2 H3 H4]
  · isplitl [H1]; · iexact H1
    isplitl [H2]; · iexact H2
    isplitl [H3] <;> iassumption
  · isplitl [G1]; · iexact G1
    isplitl [G2]; · iexact G2
    isplitl [G3] <;> iassumption

/-- The tokens of each kind of step, one by one. -/
theorem tok_bSig (c : Dev nD) (d : Bool) : (tok c (.bSig d) : sProp 𝕄) ⊢ dutyTok ER (cell (toward c d) kB) 0 d.toNat := by
  unfold tok
  iintro ⟨H, -, -, -⟩
  iapply (show (bigSepL (dutyOf (.bSig d)) (dutT c) : sProp 𝕄) ⊢ dutyTok ER (cell (toward c d) kB) 0 d.toNat from Entails.refl _)
  iexact H
theorem tok_bWait (c : Dev nD) : (tok c .bWait : sProp 𝕄) ⊢ cred (tallyAt (cell c kB) 0 2) := by
  unfold tok
  iintro ⟨-, -, -, H⟩
  iapply (show (bigSepL (crdOf .bWait) (crdT c) : sProp 𝕄) ⊢ cred (tallyAt (cell c kB) 0 2) from Entails.refl _)
  iexact H
theorem tok_wRecv (c : Dev nD) (d e : Bool) (h : ℕ) : (tok c (.wRecv d e h) : sProp 𝕄) ⊢ cred (tallyAt (cell c (kR d e (ph (h + 1)))) h N) := by
  unfold tok
  iintro ⟨-, -, -, H⟩
  iapply (show (bigSepL (crdOf (.wRecv d e h)) (crdT c) : sProp 𝕄) ⊢ cred (tallyAt (cell c (kR d e (ph (h + 1)))) h N) from Entails.refl _)
  iexact H
theorem tok_credit (c : Dev nD) (d e : Bool) (j : ℕ) :
    (tok c (.credit d e j) : sProp 𝕄) ⊢ iprop(dutyTok ER (cell (away c d) (kC d e)) 0 j ∗ readerAt ES ((c, d, e, j) : Key) 0) := by
  unfold tok
  iintro ⟨H, G, -, -⟩
  isplitl [H]
  · iapply (show (bigSepL (dutyOf (.credit d e j)) (dutT c) : sProp 𝕄) ⊢ dutyTok ER (cell (away c d) (kC d e)) 0 j from Entails.refl _)
    iexact H
  · iapply (show (bigSepL (rdrOf (.credit d e j)) (rdrT c) : sProp 𝕄) ⊢ readerAt ES ((c, d, e, j) : Key) 0 from Entails.refl _)
    iexact G
theorem tok_wCredit (c : Dev nD) (d e : Bool) (j : ℕ) :
    (tok c (.wCredit d e j) : sProp 𝕄) ⊢ iprop(writeTok ES ((toward c d, d, e, j) : Key) 1 ∗ cred (tallyAt (cell c (kC d e)) j 1)) := by
  unfold tok
  iintro ⟨-, -, H, G⟩
  isplitl [H]
  · iapply (show (bigSepL (wrtOf (.wCredit d e j)) (wrtT c) : sProp 𝕄) ⊢ writeTok ES ((toward c d, d, e, j) : Key) 1 from Entails.refl _)
    iexact H
  · iapply (show (bigSepL (crdOf (.wCredit d e j)) (crdT c) : sProp 𝕄) ⊢ cred (tallyAt (cell c (kC d e)) j 1) from Entails.refl _)
    iexact G
theorem tok_send (c : Dev nD) (d e : Bool) (h : ℕ) :
    (tok c (.send d e h) : sProp 𝕄)
      ⊢ iprop(dutyTok ER (cell c (kS d e (ph h))) (h / 3) 0 ∗ dutyTok ER (cell (toward c d) (kR d e (ph (h + 1)))) (h / 3) 0) := by
  unfold tok
  iintro ⟨H, -, -, -⟩
  iapply (show (bigSepL (dutyOf (.send d e h)) (dutT c) : sProp 𝕄)
    ⊢ iprop(dutyTok ER (cell c (kS d e (ph h))) (h / 3) 0 ∗ dutyTok ER (cell (toward c d) (kR d e (ph (h + 1)))) (h / 3) 0) from Entails.refl _)
  iexact H

/-- What device `c` holds to run `l`, beside the buffers. -/
def Run (c : Dev nD) (l : List Step) : sProp 𝕄 :=
  iprop(∃ W : Waits sig ℕ, owes (c : Thread nD τ) (owed c l) W ∗ toks c l ∗ ⌜good l = true⌝)

/-- A step that pays nothing and spends nothing. -/
theorem run_skip (c : Dev nD) (a : Step) (l : List Step) (hp : payT c a = 0) : (Run c (a :: l) : sProp 𝕄) ⊢ Run c l := by
  unfold Run
  iintro ⟨%W, HO, HT, %hg⟩
  iexists W
  rw [show owed c (a :: l) = owed c l from by show owed c l + payT c a = _; rw [hp, add_zero]]
  isplitl [HO]; · iexact HO
  ihave H := (toks_cons c a l) $$ HT
  icases H with ⟨-, HT⟩
  isplitl [HT]; · iexact HT
  ipureintro; exact good_tail hg

/-! ## What every device shares -/

/-- The freed slots' names. -/
def keys : Finset Key := Finset.univ ×ˢ (Finset.univ ×ˢ (Finset.univ ×ˢ Finset.range 16))
theorem mem_keys (c : Dev nD) (d e : Bool) (j : ℕ) (hj : j < 16) : ((c, d, e, j) : Key) ∈ keys := by
  simp only [keys, Finset.mem_product, Finset.mem_univ, Finset.mem_range, true_and]; exact hj

section Bank

variable (m : (ℓ : Loc nD τ sig) → Buf (Elt F) ℓ) (K : Dev nD × Kd → ℕ) (Ks : Key → ℕ)

instance decEqDevKd : DecidableEq (Dev nD × Kd) := instDecidableEqProd
def Bank : sProp 𝕄 :=
  iprop((bigSep Finset.univ fun x : Dev nD × Kd => cellInv ER (Rd m) (K x) (cell x.1 x.2))
    ∗ (bigSep Finset.univ fun x : Dev nD × Kd => reached ER (cell x.1 x.2) 0)
    ∗ (bigSep keys fun k => slotInv ES (Ks k) k (slotOf k))
    ∗ levAts L lv)

instance Bank_persistent : BI.Persistent (Bank m K Ks) := by unfold Bank; infer_instance

theorem bank_inv (c : Dev nD) (k : Kd) : Bank m K Ks ⊢ cellInv ER (Rd m) (K (c, k)) (cell c k) := by
  have h : (bigSep Finset.univ fun x : Dev nD × Kd => (cellInv ER (Rd m) (K x) (cell x.1 x.2) : sProp 𝕄)) ⊢ cellInv ER (Rd m) (K (c, k)) (cell c k) :=
    bigSep_elim (Finset.mem_univ (c, k))
  unfold Bank
  iintro ⟨H, -, -, -⟩
  iapply h; iexact H
theorem bank_reached (c : Dev nD) (k : Kd) : Bank m K Ks ⊢ reached ER (cell c k) 0 := by
  have h : (bigSep Finset.univ fun x : Dev nD × Kd => (reached ER (cell x.1 x.2) 0 : sProp 𝕄)) ⊢ reached ER (cell c k) 0 :=
    bigSep_elim (Finset.mem_univ (c, k))
  unfold Bank
  iintro ⟨-, H, -, -⟩
  iapply h; iexact H
theorem bank_slot (k : Key) (hk : k ∈ keys) : Bank m K Ks ⊢ slotInv ES (Ks k) k (slotOf k) := by
  have h : (bigSep keys fun k : Key => (slotInv ES (Ks k) k (slotOf k) : sProp 𝕄)) ⊢ slotInv ES (Ks k) k (slotOf k) := bigSep_elim hk
  unfold Bank
  iintro ⟨-, -, H, -⟩
  iapply h; iexact H
theorem bank_lev : Bank m K Ks ⊢ levAts L lv := by
  unfold Bank
  iintro ⟨-, -, -, H⟩
  iexact H

end Bank

/-- Running the steps `l` on device `c`. -/
abbrev WP (c : Dev nD) (l : List Step) (Q : PUnit → sProp 𝕄) : sProp 𝕄 :=
  wp frame (wpE (defs₀ (F := F)) 𝒱₀ (c : Thread nD τ) none) Set.univ (run c l) Q

end Cert.Proof

end
-- ==== Proof.Steps.lean ====
/-
  One lemma per kind of step that touches a semaphore: what it needs, what it leaves, whatever steps follow.
-/
module

public import proofs.«01_k».proof.Proof.State
public import Idealize.SL.BI.BigOpNat

@[expose] public section

set_option maxRecDepth 20000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation)

variable {F : FTy → Type} [FloatOps F]

local notation "𝕄" => MT nD τ sig ℕ (Elt F) ℕ UU ℕ

/-! ## What each step runs -/

abbrev PT (F : FTy → Type) [FloatOps F] : Type 1 := Prog (TpuEff nD τ sig (Elt F) Λ₀ .tc) PUnit

theorem run_bSig (c : Dev nD) (d : Bool) (l : List Step) :
    (run c (.bSig d :: l) : PT F) = .op (.semSignal ((toward c d, .tc) : Thread nD τ) bSem (1#32).toInt) fun _ => run c l := rfl
theorem run_bWait (c : Dev nD) (l : List Step) : (run c (.bWait :: l) : PT F) = .op (.semWait bSem (2#32).toInt) fun _ => run c l := rfl
theorem run_wSend (c : Dev nD) (d e : Bool) (h : ℕ) (l : List Step) :
    (run c (.wSend d e h :: l) : PT F)
      = .op (.waitDma2 (sSem d e (ph h)) (slotM d e (ph (h + 1))) (srcM d e h) (slotM_exact _ _ _) (srcM_exact _ _ _)) fun _ => run c l := rfl
theorem run_wRecv (c : Dev nD) (d e : Bool) (h : ℕ) (l : List Step) :
    (run c (.wRecv d e h :: l) : PT F)
      = .op (.waitDma2 (rSem d e (ph (h + 1))) (srcM d e h) (slotM d e (ph (h + 1))) (srcM_exact _ _ _) (slotM_exact _ _ _)) fun _ => run c l := rfl
theorem run_credit (c : Dev nD) (d e : Bool) (j : ℕ) (l : List Step) :
    (run c (.credit d e j :: l) : PT F) = .op (.semSignal ((away c d, .tc) : Thread nD τ) (cSem d e) (1#32).toInt) fun _ => run c l := rfl
theorem run_wCredit (c : Dev nD) (d e : Bool) (j : ℕ) (l : List Step) :
    (run c (.wCredit d e j :: l) : PT F) = .op (.semWait (cSem d e) (1#32).toInt) fun _ => run c l := rfl
theorem run_send (c : Dev nD) (d e : Bool) (h : ℕ) (l : List Step) :
    (run c (.send d e h :: l) : PT F)
      = .op (.enqueueDma (srcM d e h) (.remote (Dev.tc (toward c d)) (slotM d e (ph (h + 1))) (.dma (sSem d e (ph h))) (slotM_notSc _ _ _))
          (.dma (rSem d e (ph (h + 1)))) (srcM_exact _ _ _) (slotM_exact _ _ _) (dmaTyped _ _ _ _ _)) fun _ => run c l := rfl

/-! ## Positions -/

/-- Device `c` stands at round `r` of one of its cells, nothing taken. -/
def pos (c : Dev nD) (k : Kd) (r : ℕ) : sProp 𝕄 := iprop(atPos ER (cell c k) r ∅ 0 ∗ reached ER (cell c k) r)
/-- The three send cells of a stream before the wait of hop `h`; -/
def sndP (c : Dev nD) (d e : Bool) (h : ℕ) : sProp 𝕄 :=
  iprop(pos c (kS d e (ph h)) (h / 3) ∗ pos c (kS d e (ph (h + 1))) ((h + 1) / 3) ∗ pos c (kS d e (ph (h + 2))) ((h + 2) / 3))
/-- and its three receive cells. -/
def rcvP (c : Dev nD) (d e : Bool) (h : ℕ) : sProp 𝕄 :=
  iprop(pos c (kR d e (ph (h + 1))) (h / 3) ∗ pos c (kR d e (ph (h + 2))) ((h + 1) / 3) ∗ pos c (kR d e (ph (h + 3))) ((h + 2) / 3))
/-- The credit cell after `n` waits: which units have come is not known, but at least `n` have. -/
def crdP (c : Dev nD) (d e : Bool) (n : ℕ) : sProp 𝕄 :=
  if n < hops d e - 2 then
    iprop(∃ T : Finset ℕ, ⌜T ⊆ Finset.range (hops d e - 2) ∧ n + (Finset.range (hops d e - 2) \ T).card ≤ hops d e - 2⌝
      ∗ atPos ER (cell c (kC d e)) 0 T n ∗ bigSep T fun δ => rel (toward c d) d e (δ + 1))
  else atPos ER (cell c (kC d e)) 1 ∅ 0

theorem crdP_mid (c : Dev nD) (d e : Bool) (n : ℕ) (h : n < hops d e - 2) :
    (crdP c d e n : sProp 𝕄)
      = iprop(∃ T : Finset ℕ, ⌜T ⊆ Finset.range (hops d e - 2) ∧ n + (Finset.range (hops d e - 2) \ T).card ≤ hops d e - 2⌝
          ∗ atPos ER (cell c (kC d e)) 0 T n ∗ bigSep T fun δ => rel (toward c d) d e (δ + 1)) := if_pos h
theorem crdP_end (c : Dev nD) (d e : Bool) (n : ℕ) (h : ¬ n < hops d e - 2) :
    (crdP c d e n : sProp 𝕄) = atPos ER (cell c (kC d e)) 1 ∅ 0 := if_neg h

theorem pos_reached (c : Dev nD) (k : Kd) (r : ℕ) : (pos c k r : sProp 𝕄) ⊢ iprop(pos c k r ∗ reached ER (cell c k) r) := by
  unfold pos
  iintro ⟨H, #HR⟩
  isplitl [H]
  · isplitl [H]; · iexact H
    iexact HR
  iexact HR

section Steps

variable (m : (ℓ : Loc nD τ sig) → Buf (Elt F) ℓ) (K : Dev nD × Kd → ℕ) (Ks : Key → ℕ) (c : Dev nD)

/-- The rest of a round of one duty is that duty's payload. -/
theorem rest_one (k : Kd) (r : ℕ) (h : dutiesK k r = {0}) :
    (bigSep ((Rd (F := F) m).duties (cell c k) r \ ∅) fun δ => (Rd m).payload (cell c k) r δ) = payK m c k r 0 := by
  rw [Finset.sdiff_empty, duties_cell, h, bigSep_singleton, payload_cell]

/-- A wait for the one duty of a round, whatever follows. -/
theorem wait_one (Φ : PUnit → sProp 𝕄) (k : Kd) (r i : ℕ) (hk : dutiesK k r = {0}) {w : TpuEff nD τ sig (Elt F) Λ₀ .tc PUnit} {k' : ℕ} (hk' : k' = amountK k)
    (hw : ∀ Kt : PUnit → sProp 𝕄, wpE (defs₀ (F := F)) 𝒱₀ (c : Thread nD τ) none Set.univ w Kt = waitSpec (c : Thread nD τ) Set.univ (locOf k) k' Kt)
    (O : CellTallies nD τ sig ℕ) (W : Waits sig ℕ) (p : PUnit → Prog (TpuEff nD τ sig (Elt F) Λ₀ .tc) PUnit) :
    iprop(Bank m K Ks ∗ cred (tallyAt (cell c k) i (amountK k)) ∗ owes (c : Thread nD τ) O W ∗ MayWait (c : Thread nD τ) (locOf k) i O ∗ pos c k r)
      ⊢ iprop(((owes (c : Thread nD τ) O (insert (locOf k, i) W) ∗ pos c k (r + 1) ∗ payK m c k r 0)
            -∗ wp frame (wpE (defs₀ (F := F)) 𝒱₀ (c : Thread nD τ) none) Set.univ (p ⟨⟩) Φ)
          -∗ wp frame (wpE (defs₀ (F := F)) 𝒱₀ (c : Thread nD τ) none) Set.univ (.op w p) Φ) := by
  subst hk'
  have hx : 0 + amountK k = (Rd (F := F) m).expect (cell c k) r := by
    rw [expect_cell, hk, Finset.card_singleton, Nat.one_mul, Nat.zero_add]
  unfold pos
  iintro ⟨#HB, Hc, HO, HM, HP, -⟩ Hk
  iapply (Rounds.wp_wait_rest_token 𝒱₀ ER (Rd m) (c : Thread nD τ) none (κ := K (c, k)) hw (Set.mem_univ _) i (O := O) (W := W) (R := r) (m := 0) (T := ∅)
      hx) $$ [Hc HO HM HP]
  · isplitr; · iapply (bank_inv m K Ks c k); iexact HB
    isplitl [Hc]; · iexact Hc
    isplitl [HO]; · iexact HO
    isplitl [HM]; · iexact HM
    iexact HP
  iintro ⟨HO, HP, HR, Hpay⟩
  ihave Hp := (Entails.of_eq (rest_one m c k r hk)) $$ Hpay
  iapply Hk
  isplitl [HO]; · iexact HO
  isplitl [HP HR]
  · isplitl [HP] <;> iassumption
  iexact Hp

theorem may_wSend {d e : Bool} {h : ℕ} {l : List Step} (hg : good (.wSend d e h :: l) = true) :
    Bank m K Ks ⊢ MayWait (c : Thread nD τ) (locOf (kS d e (ph h))) h (owed c l) := (bank_lev m K Ks).trans (mayWait_wSend hg)
theorem may_wRecv {d e : Bool} {h : ℕ} {l : List Step} (hg : good (.wRecv d e h :: l) = true) :
    Bank m K Ks ⊢ MayWait (c : Thread nD τ) (locOf (kR d e (ph (h + 1)))) h (owed c l) := (bank_lev m K Ks).trans (mayWait_wRecv hg)
theorem may_wCredit {d e : Bool} {j : ℕ} {l : List Step} (hg : good (.wCredit d e j :: l) = true) :
    Bank m K Ks ⊢ MayWait (c : Thread nD τ) (locOf (kC d e)) j (owed c l) := (bank_lev m K Ks).trans (mayWait_wCredit hg)
theorem may_bWait {l : List Step} (hg : good (.bWait :: l) = true) :
    Bank m K Ks ⊢ MayWait (c : Thread nD τ) (locOf kB) 0 (owed c l) := (bank_lev m K Ks).trans (mayWait_bWait hg)

/-- The wait for a send to have been read out. -/
theorem step_wSend (Φ : PUnit → sProp 𝕄) (d e : Bool) (h : ℕ) (hh : h < hops d e) (l : List Step) :
    iprop(Bank m K Ks ∗ cred (tallyAt (cell c (kS d e (ph h))) h N) ∗ sndP c d e h ∗ Run c (.wSend d e h :: l))
      ⊢ iprop(((owns (c : Thread nD τ) (srcM d e h) (sq d h) (val m c d e h) ∗ sndP c d e (h + 1) ∗ Run c l) -∗ WP c l Φ)
          -∗ WP c (.wSend d e h :: l) Φ) := by
  unfold sndP Run
  iintro ⟨#HB, Hc, ⟨H0, H1, H2⟩, ⟨%W, HO, HT, %hg⟩⟩ Hk
  ihave HT := (toks_cons c _ l) $$ HT
  icases HT with ⟨-, HT⟩
  rw [show owed c (.wSend d e h :: l) = owed c l from add_zero _]
  unfold WP; rw [run_wSend]
  iapply (wait_one m K Ks c Φ (kS d e (ph h)) (h / 3) h (duties_snd d e h hh) (src_credit d e h)
    (wpE_waitDma2_eq 𝒱₀ (c : Thread nD τ) none Set.univ) (owed c l) W) $$ [Hc HO H0]
  · isplitr; · iexact HB
    isplitl [Hc]; · iexact Hc
    isplitl [HO]; · iexact HO
    isplitr
    · iapply (may_wSend m K Ks c hg); iexact HB
    iexact H0
  iintro ⟨HO, H0, Hp⟩
  ihave Hp := (Entails.of_eq (pay_snd m c d e h 0)) $$ Hp
  iapply Hk
  isplitl [Hp]; · iexact Hp
  isplitl [H0 H1 H2]
  · isplitl [H1]; · iexact H1
    isplitl [H2]; · iexact H2
    rw [show h + 1 + 2 = h + 3 from rfl, ph_add, show (h + 3) / 3 = h / 3 + 1 from by omega]
    iexact H0
  iexists _
  isplitl [HO]; · iexact HO
  isplitl [HT]; · iexact HT
  ipureintro; exact good_tail hg

/-- The wait for a landing. -/
theorem step_wRecv (Φ : PUnit → sProp 𝕄) (d e : Bool) (h : ℕ) (hh : h < hops d e) (l : List Step) :
    iprop(Bank m K Ks ∗ rcvP c d e h ∗ Run c (.wRecv d e h :: l))
      ⊢ iprop(((owns (c : Thread nD τ) (slotM d e (ph (h + 1))) fullShare (val m c d e (h + 1)) ∗ rcvP c d e (h + 1) ∗ Run c l) -∗ WP c l Φ)
          -∗ WP c (.wRecv d e h :: l) Φ) := by
  unfold rcvP Run
  iintro ⟨#HB, ⟨H0, H1, H2⟩, ⟨%W, HO, HT, %hg⟩⟩ Hk
  ihave HT := (toks_cons c _ l) $$ HT
  icases HT with ⟨Hc, HT⟩
  ihave Hc := (tok_wRecv c d e h) $$ Hc
  rw [show owed c (.wRecv d e h :: l) = owed c l from add_zero _]
  unfold WP; rw [run_wRecv]
  iapply (wait_one m K Ks c Φ (kR d e (ph (h + 1))) (h / 3) h (duties_rcv d e h hh) (slot_credit d e (ph (h + 1)))
    (wpE_waitDma2_eq 𝒱₀ (c : Thread nD τ) none Set.univ) (owed c l) W) $$ [Hc HO H0]
  · isplitr; · iexact HB
    isplitl [Hc]; · iexact Hc
    isplitl [HO]; · iexact HO
    isplitr
    · iapply (may_wRecv m K Ks c hg); iexact HB
    iexact H0
  iintro ⟨HO, H0, Hp⟩
  ihave Hp := (Entails.of_eq (pay_rcv m c d e h 0)) $$ Hp
  iapply Hk
  isplitl [Hp]; · iexact Hp
  isplitl [H0 H1 H2]
  · isplitl [H1]; · iexact H1
    isplitl [H2]; · iexact H2
    rw [show h + 1 + 3 = h + 1 + 3 from rfl, ph_add, show (h + 1 + 2) / 3 = h / 3 + 1 from by omega]
    iexact H0
  iexists _
  isplitl [HO]; · iexact HO
  isplitl [HT]; · iexact HT
  ipureintro; exact good_tail hg

theorem anyS_false (d e : Bool) (k : Fin 3) : iprop(anyS c d e k ∗ anyS c d e k) ⊢ (False : sProp 𝕄) := by
  unfold anyS
  have hz : ∃ i, i ∈ (slotM d e k).view.set := Finset.card_pos.mp (by rw [View.card_set]; decide)
  obtain ⟨i, hi⟩ := hz
  iintro ⟨⟨%f, H⟩, ⟨%g, G⟩⟩
  iapply (pointsTo_full_full_false (f := f) (g := g) hi hi)
  isplitl [H] <;> iassumption

theorem slotOf_false (k : Key) : iprop(slotOf k ∗ slotOf k) ⊢ (False : sProp 𝕄) := by
  unfold slotOf
  iintro ⟨⟨H, -⟩, ⟨G, -⟩⟩
  iapply (anyS_false k.1 k.2.1 k.2.2.1 (ph k.2.2.2))
  isplitl [H] <;> iassumption

/-- Handing a slot back: it goes into its invariant, the unit carries the news. -/
theorem step_credit (Φ : PUnit → sProp 𝕄) (d e : Bool) (j : ℕ) (hj : j < hops d e - 2) (l : List Step) :
    iprop(Bank m K Ks ∗ anyS c d e (ph j) ∗ reached ER (cell c (kR d e (ph j))) ((j + 2) / 3) ∗ rel c d e j ∗ Run c (.credit d e j :: l))
      ⊢ iprop(((rel c d e (j + 1) ∗ Run c l) -∗ WP c l Φ) -∗ WP c (.credit d e j :: l) Φ) := by
  have hj16 : j < 16 := by cases d <;> cases e <;> simp only [hops] at hj <;> omega
  have hd : j ∈ (Rd (F := F) m).duties (cell (away c d) (kC d e)) 0 := by
    rw [duties_cell]; exact Finset.mem_range.mpr hj
  have ha : (Rd (F := F) m).amount (cell (away c d) (kC d e)) 0 j = 1 := by rw [amount_cell]; rfl
  have hp : (Rd (F := F) m).payload (cell (away c d) (kC d e)) 0 j = rel c d e (j + 1) := by
    rw [payload_cell]; show rel (toward (away c d) d) d e (j + 1) = _; rw [toward_away]
  unfold Run
  iintro ⟨#HB, HS, #HR, #Hrel, ⟨%W, HO, HT, %hg⟩⟩ Hk
  ihave HT := (toks_cons c _ l) $$ HT
  icases HT with ⟨Hd, HT⟩
  ihave Hd := (tok_credit c d e j) $$ Hd
  icases Hd with ⟨Hd, Hr⟩
  imod (slot_release ES (S := slotOf (F := F) ((c, d, e, j) : Key)) (Set.mem_univ (Ks (c, d, e, j))) (slotOf_false _) 0) $$ [Hr HS] with ⟨-, #Hn⟩
  · isplitr; · iapply (bank_slot m K Ks (c, d, e, j) (mem_keys c d e j hj16)); iexact HB
    isplitl [Hr]; · iexact Hr
    unfold slotOf
    isplitl [HS]; · iexact HS
    iexact HR
  ihave #Hrel' := (show iprop(released ES ((c, d, e, j) : Key) 1 ∗ rel c d e j) ⊢ (rel c d e (j + 1) : sProp 𝕄) from by
    unfold rel; exact Entails.of_eq (Idealize.SL.BI.bigSep_range_succ j fun j => (released ES ((c, d, e, j) : Key) 1 : sProp 𝕄)).symm) $$ [Hn Hrel]
  · isplitr; · iexact Hn
    iexact Hrel
  unfold WP; rw [run_credit]
  iapply (Rounds.wp_signal 𝒱₀ ER (Rd m) (c : Thread nD τ) none (dst := (away c d : Thread nD τ)) (κ := K (away c d, kC d e)) (r := 0) (d := j) hd (ha.trans (by decide)) j (owed c l) rfl) $$ [HO Hd]
  · isplitr; · iapply (bank_inv m K Ks (away c d) (kC d e)); iexact HB
    isplitl [HO]; · iexact HO
    isplitl [Hd]; · iexact Hd
    isplitr
    · iapply (show (rel c d e (j + 1) : sProp 𝕄) ⊢ (Rd m).payload ((away c d : Thread nD τ), SemLoc.reg (cSem d e)) 0 j from Entails.of_eq hp.symm)
      iexact Hrel'
    iapply (bank_reached m K Ks (away c d) (kC d e)); iexact HB
  iintro HO
  iapply Hk
  isplitr; · iexact Hrel'
  iexists W
  isplitl [HO]; · iexact HO
  isplitl [HT]; · iexact HT
  ipureintro; exact good_tail hg

/-- Among enough of the first credits some is not before `j`. -/
theorem late_credit {H j : ℕ} {S : Finset ℕ} (hS : S ⊆ Finset.range H) (hj : j < H) (hc : (Finset.range H \ S).card ≤ H - (j + 1)) :
    ∃ δ ∈ S, j ≤ δ := by
  by_contra hn
  have hsub : S ⊆ Finset.range j := fun x hx => Finset.mem_range.mpr (Nat.lt_of_not_le fun h => hn ⟨x, hx, h⟩)
  have h1 := Finset.card_le_card hsub
  rw [Finset.card_range] at h1
  rw [Finset.card_sdiff_of_subset hS, Finset.card_range] at hc
  omega

/-- What came with that credit says that slot `j` is back. -/
theorem released_of {d e : Bool} {j : ℕ} {S : Finset ℕ} (h : ∃ δ ∈ S, j ≤ δ) :
    (bigSep S fun δ => (rel c d e (δ + 1) : sProp 𝕄)) ⊢ released ES ((c, d, e, j) : Key) 1 := by
  obtain ⟨δ, hδ, hj⟩ := h
  have h1 : (bigSep S fun δ => (rel c d e (δ + 1) : sProp 𝕄)) ⊢ rel c d e (δ + 1) := bigSep_elim hδ
  have h2 : (rel c d e (δ + 1) : sProp 𝕄) ⊢ released ES ((c, d, e, j) : Key) 1 := by
    unfold rel; exact bigSep_elim (Finset.mem_range.mpr (Nat.lt_succ_of_le hj))
  exact h1.trans h2

theorem crd_pay (d e : Bool) (S : Finset ℕ) :
    (bigSep S fun δ => (Rd (F := F) m).payload ((c : Thread nD τ), SemLoc.reg (cSem d e)) 0 δ) = (bigSep S fun δ => rel (toward c d) d e (δ + 1)) :=
  bigSep_congr fun δ _ => payload_cell m c (kC d e) 0 δ

theorem crd_join (d e : Bool) {T S : Finset ℕ} (h : T ⊆ S) :
    iprop((bigSep T fun δ => (rel c d e (δ + 1) : sProp 𝕄)) ∗ bigSep (S \ T) fun δ => rel c d e (δ + 1))
      ⊢ (bigSep S fun δ => rel c d e (δ + 1)) :=
  Entails.of_eq (Idealize.SL.BI.bigSep_sdiff_split h).symm

/-- A wait for a credit, and the slot it says is back. -/
theorem step_wCredit (Φ : PUnit → sProp 𝕄) (d e : Bool) (j : ℕ) (hj : j < hops d e - 2) (l : List Step) :
    iprop(Bank m K Ks ∗ crdP c d e j ∗ Run c (.wCredit d e j :: l))
      ⊢ iprop(((crdP c d e (j + 1) ∗ anyS (toward c d) d e (ph j) ∗ reached ER (cell (toward c d) (kR d e (ph j))) ((j + 2) / 3) ∗ Run c l) -∗ WP c l Φ)
          -∗ WP c (.wCredit d e j :: l) Φ) := by
  have hj16 : j < 16 := by cases d <;> cases e <;> simp only [hops] at hj <;> omega
  have hx : (Rd (F := F) m).expect ((c : Thread nD τ), SemLoc.reg (cSem d e)) 0 = hops d e - 2 := by
    show (Rd (F := F) m).expect (cell c (kC d e)) 0 = _
    rw [expect_cell]; show (Finset.range (hops d e - 2)).card * 1 = _; rw [Finset.card_range, Nat.mul_one]
  have hdut : (Rd (F := F) m).duties ((c : Thread nD τ), SemLoc.reg (cSem d e)) 0 = Finset.range (hops d e - 2) := (duties_cell m c (kC d e) 0).trans rfl
  unfold Run
  iintro ⟨#HB, HP, ⟨%W, HO, HT, %hg⟩⟩ Hk
  ihave HT := (toks_cons c _ l) $$ HT
  icases HT with ⟨Hd, HT⟩
  ihave Hd := (tok_wCredit c d e j) $$ Hd
  icases Hd with ⟨Hw, Hc⟩
  rw [show owed c (.wCredit d e j :: l) = owed c l from add_zero _]
  ihave HP := (Entails.of_eq (crdP_mid c d e j hj)) $$ HP
  icases HP with ⟨%T, %hT, HP, #HrT⟩
  unfold WP; rw [run_wCredit]
  by_cases hlast : j + 1 < hops d e - 2
  · iapply (Rounds.wp_wait 𝒱₀ ER (Rd m) (c : Thread nD τ) none (κ := K (c, kC d e)) (wpE_semWait_eq 𝒱₀ (c : Thread nD τ) none Set.univ) (Set.mem_univ _)
      (O := owed c l) (W := W) (R := 0) (m := j) (T := T) {(SemLoc.reg (cSem d e), j)} (cr := Finsupp.single j 1)
      (by rw [Util.total_single]; rfl) (image_single_subset (SemLoc.reg (cSem d e)) j 1)) $$ [Hc HO HP]
    · isplitr; · iapply (bank_inv m K Ks c (kC d e)); iexact HB
      isplitl [Hc]; · iexact Hc
      isplitl [HO]; · iexact HO
      isplitr
      · iapply (may_wCredit m K Ks c hg); iexact HB
      iexact HP
    iintro %S ⟨%hS, HO, HP, HpS⟩
    obtain ⟨hTS, hSd, hcard⟩ := hS
    have hSd' : S ⊆ Finset.range (hops d e - 2) := hdut ▸ hSd
    have hcard' : j + 1 + (Finset.range (hops d e - 2) \ S).card ≤ hops d e - 2 := by
      have := hcard; rw [hx, hdut] at this; exact this
    ihave #HrS := (Entails.of_eq (crd_pay m c d e (S \ T))) $$ HpS
    ihave #HrA := (crd_join (toward c d) d e hTS) $$ [HrT HrS]
    · isplitr; · iexact HrT
      iexact HrS
    ihave #Hrel := (released_of (toward c d) (late_credit hSd' hj (by omega))) $$ HrA
    imod (slot_take ES (S := slotOf (F := F) ((toward c d, d, e, j) : Key)) (Set.mem_univ (Ks (toward c d, d, e, j))) 1) $$ [Hw] with Hsl
    · isplitr; · iapply (bank_slot m K Ks (toward c d, d, e, j) (mem_keys (toward c d) d e j hj16)); iexact HB
      isplitr; · iexact Hrel
      iexact Hw
    unfold slotOf
    icases Hsl with ⟨Hany, Hre⟩
    iapply Hk
    isplitl [HP]
    · iapply (Entails.of_eq (crdP_mid c d e (j + 1) hlast).symm)
      iexists S
      isplitr
      · ipureintro; exact ⟨hSd', hcard'⟩
      isplitl [HP]; · iexact HP
      iexact HrA
    isplitl [Hany]; · iexact Hany
    isplitl [Hre]; · iexact Hre
    iexists _
    isplitl [HO]; · iexact HO
    isplitl [HT]; · iexact HT
    ipureintro; exact good_tail hg
  · have hx1 : j + Int.toNat (1#32 : BitVec 32).toInt = (Rd (F := F) m).expect ((c : Thread nD τ), SemLoc.reg (cSem d e)) 0 := by
      rw [hx]; show j + 1 = _; omega
    iapply (Rounds.wp_wait_rest_token 𝒱₀ ER (Rd m) (c : Thread nD τ) none (κ := K (c, kC d e)) (wpE_semWait_eq 𝒱₀ (c : Thread nD τ) none Set.univ) (Set.mem_univ _)
      j (O := owed c l) (W := W) (R := 0) (m := j) (T := T) hx1) $$ [Hc HO HP]
    · isplitr; · iapply (bank_inv m K Ks c (kC d e)); iexact HB
      isplitl [Hc]; · iexact Hc
      isplitl [HO]; · iexact HO
      isplitr
      · iapply (may_wCredit m K Ks c hg); iexact HB
      iexact HP
    iintro ⟨HO, HP, -, HpS⟩
    ihave #HrS := (Entails.of_eq ((congrArg (fun D => bigSep (D \ T) fun δ => (Rd (F := F) m).payload ((c : Thread nD τ), SemLoc.reg (cSem d e)) 0 δ) hdut).trans
      (crd_pay m c d e (Finset.range (hops d e - 2) \ T)))) $$ HpS
    ihave #HrA := (crd_join (toward c d) d e hT.1) $$ [HrT HrS]
    · isplitr; · iexact HrT
      iexact HrS
    ihave #Hrel := (released_of (toward c d) ⟨j, Finset.mem_range.mpr hj, le_refl j⟩) $$ HrA
    imod (slot_take ES (S := slotOf (F := F) ((toward c d, d, e, j) : Key)) (Set.mem_univ (Ks (toward c d, d, e, j))) 1) $$ [Hw] with Hsl
    · isplitr; · iapply (bank_slot m K Ks (toward c d, d, e, j) (mem_keys (toward c d) d e j hj16)); iexact HB
      isplitr; · iexact Hrel
      iexact Hw
    unfold slotOf
    icases Hsl with ⟨Hany, Hre⟩
    iapply Hk
    isplitl [HP]
    · iapply (Entails.of_eq (crdP_end c d e (j + 1) hlast).symm)
      iexact HP
    isplitl [Hany]; · iexact Hany
    isplitl [Hre]; · iexact Hre
    iexists _
    isplitl [HO]; · iexact HO
    isplitl [HT]; · iexact HT
    ipureintro; exact good_tail hg

/-- Sending on: the source lent to the transfer, the slot ahead given up. -/
theorem step_send (Φ : PUnit → sProp 𝕄) (d e : Bool) (h : ℕ) (hh : h < hops d e) (l : List Step) :
    iprop(Bank m K Ks ∗ owns (c : Thread nD τ) (srcM d e h) (sq d h) (val m c d e h) ∗ anyS (toward c d) d e (ph (h + 1))
        ∗ reached ER (cell (toward c d) (kR d e (ph (h + 1)))) (h / 3) ∗ reached ER (cell c (kS d e (ph h))) (h / 3) ∗ Run c (.send d e h :: l))
      ⊢ iprop(((cred (tallyAt (cell c (kS d e (ph h))) h N) ∗ Run c l) -∗ WP c l Φ)
          -∗ WP c (.send d e h :: l) Φ) := by
  have hd₁ : 0 ∈ (Rd (F := F) m).duties ((c : Thread nD τ), SemLoc.dma (sSem d e (ph h))) (h / 3) := by
    have := duties_cell m c (kS d e (ph h)) (h / 3)
    rw [duties_snd d e h hh] at this
    exact this ▸ Finset.mem_singleton_self _
  have hd₂ : 0 ∈ (Rd (F := F) m).duties ((toward c d : Thread nD τ), SemLoc.dma (rSem d e (ph (h + 1)))) (h / 3) := by
    have := duties_cell m (toward c d) (kR d e (ph (h + 1))) (h / 3)
    rw [duties_rcv d e h hh] at this
    exact this ▸ Finset.mem_singleton_self _
  have hk₁ : (Rd (F := F) m).amount ((c : Thread nD τ), SemLoc.dma (sSem d e (ph h))) (h / 3) 0 = N :=
    amount_cell m c (kS d e (ph h)) (h / 3) 0
  have hk₂ : (Rd (F := F) m).amount ((toward c d : Thread nD τ), SemLoc.dma (rSem d e (ph (h + 1)))) (h / 3) 0 = N :=
    amount_cell m (toward c d) (kR d e (ph (h + 1))) (h / 3) 0
  have hp₁ : (Rd (F := F) m).payload ((c : Thread nD τ), SemLoc.dma (sSem d e (ph h))) (h / 3) 0
      = owns (c : Thread nD τ) (srcM d e h) (sq d h) (val m c d e h) :=
    (payload_cell m c (kS d e (ph h)) (h / 3) 0).trans (pay_snd m c d e h 0)
  have hp₂ : (Rd (F := F) m).payload ((toward c d : Thread nD τ), SemLoc.dma (rSem d e (ph (h + 1)))) (h / 3) 0
      = owns (toward c d : Thread nD τ) (slotM d e (ph (h + 1))) fullShare (val m c d e h) := by
    have := (payload_cell m (toward c d) (kR d e (ph (h + 1))) (h / 3) 0).trans (pay_rcv m (toward c d) d e h 0)
    rw [val_toward] at this; exact this
  unfold Run
  iintro ⟨#HB, Hs, Hdst, #Hr2, #Hr1, ⟨%W, HO, HT, %hg⟩⟩ Hk
  ihave HT := (toks_cons c _ l) $$ HT
  icases HT with ⟨Hd, HT⟩
  ihave Hd := (tok_send c d e h) $$ Hd
  icases Hd with ⟨Hd1, Hd2⟩
  unfold owns anyS
  icases Hs with ⟨%fs, %hfs, Hs⟩
  icases Hdst with ⟨%fd, Hdst⟩
  unfold WP; rw [run_send]
  iapply (Rounds.wp_send_pointsTo 𝒱₀ ER (Rd m) (c : Thread nD τ) none (κ₁ := K (c, kS d e (ph h))) (κ₂ := K (toward c d, kR d e (ph (h + 1))))
    (r₁ := h / 3) (r₂ := h / 3) (d₁ := 0) (d₂ := 0) (fd := fd) (fs := fs) (q := sq d h) hd₁ hd₂ h h N rfl hk₁ hk₂ (owed c l) rfl (W := W)
    (by rw [hp₁]; unfold owns; iintro H; iexists fs; isplitr; · ipureintro; exact hfs
        iexact H)
    (by rw [hp₂]; unfold owns; iintro H; iexists _; isplitr; swap; · iexact H
        ipureintro; rw [View.read_write_univ]; exact hfs)) $$ [Hs Hdst HO Hd1 Hd2]
  · isplitr; · iapply (bank_inv m K Ks c (kS d e (ph h))); iexact HB
    isplitr; · iapply (bank_inv m K Ks (toward c d) (kR d e (ph (h + 1)))); iexact HB
    isplitl [Hs]; · iexact Hs
    isplitl [Hdst]; · iexact Hdst
    isplitl [HO]; · iexact HO
    isplitl [Hd1]; · iexact Hd1
    isplitr; · iexact Hr1
    isplitl [Hd2]; · iexact Hd2
    iexact Hr2
  iintro ⟨Hc, HO⟩
  iapply Hk
  isplitl [Hc]; · iexact Hc
  iexists W
  isplitl [HO]; · iexact HO
  isplitl [HT]; · iexact HT
  ipureintro; exact good_tail hg

/-- The barrier's unit to a neighbour, with the landing slots it will fill. -/
theorem step_bSig (Φ : PUnit → sProp 𝕄) (d : Bool) (l : List Step) :
    iprop(Bank m K Ks ∗ lend c (!d) false ∗ lend c (!d) true ∗ Run c (.bSig d :: l))
      ⊢ iprop((Run c l -∗ WP c l Φ) -∗ WP c (.bSig d :: l) Φ) := by
  have hd : d.toNat ∈ (Rd (F := F) m).duties (cell (toward c d) kB) 0 := by
    rw [duties_cell]; show d.toNat ∈ ({0, 1} : Finset ℕ); cases d <;> decide
  have ha : (Rd (F := F) m).amount (cell (toward c d) kB) 0 d.toNat = 1 := by rw [amount_cell]; rfl
  have hp : (Rd (F := F) m).payload (cell (toward c d) kB) 0 d.toNat = iprop(lend c (!d) false ∗ lend c (!d) true) := by
    rw [payload_cell]; show barPay (toward c d) (decide (d.toNat = 1)) = _
    rw [show decide (d.toNat = 1) = d from by cases d <;> rfl]; unfold barPay; rw [away_toward]
  unfold Run
  iintro ⟨#HB, H1, H2, ⟨%W, HO, HT, %hg⟩⟩ Hk
  ihave HT := (toks_cons c _ l) $$ HT
  icases HT with ⟨Hd, HT⟩
  ihave Hd := (tok_bSig c d) $$ Hd
  unfold WP; rw [run_bSig]
  iapply (Rounds.wp_signal 𝒱₀ ER (Rd m) (c : Thread nD τ) none (dst := (toward c d : Thread nD τ)) (κ := K (toward c d, kB)) (r := 0) (d := d.toNat) hd (ha.trans (by decide)) 0 (owed c l) rfl) $$ [HO Hd H1 H2]
  · isplitr; · iapply (bank_inv m K Ks (toward c d) kB); iexact HB
    isplitl [HO]; · iexact HO
    isplitl [Hd]; · iexact Hd
    isplitl [H1 H2]
    · iapply (show iprop(lend c (!d) false ∗ lend c (!d) true) ⊢ (Rd m).payload ((toward c d : Thread nD τ), SemLoc.reg bSem) 0 d.toNat from Entails.of_eq hp.symm)
      isplitl [H1] <;> iassumption
    iapply (bank_reached m K Ks (toward c d) kB); iexact HB
  iintro HO
  iapply Hk
  iexists W
  isplitl [HO]; · iexact HO
  isplitl [HT]; · iexact HT
  ipureintro; exact good_tail hg

/-- The wait for both neighbours. -/
theorem step_bWait (Φ : PUnit → sProp 𝕄) (l : List Step) :
    iprop(Bank m K Ks ∗ pos c kB 0 ∗ Run c (.bWait :: l))
      ⊢ iprop(((pos c kB 1 ∗ barPay c false ∗ barPay c true ∗ Run c l) -∗ WP c l Φ) -∗ WP c (.bWait :: l) Φ) := by
  have hx : 0 + Int.toNat (2#32 : BitVec 32).toInt = (Rd (F := F) m).expect (cell c kB) 0 := by rw [expect_cell]; decide
  have hp : (bigSep ((Rd (F := F) m).duties ((c : Thread nD τ), SemLoc.reg bSem) 0 \ ∅) fun δ => (Rd m).payload ((c : Thread nD τ), SemLoc.reg bSem) 0 δ)
      = iprop(barPay c false ∗ barPay c true) := by
    show (bigSep ((Rd (F := F) m).duties (cell c kB) 0 \ ∅) fun δ => (Rd m).payload (cell c kB) 0 δ) = _
    rw [Finset.sdiff_empty, duties_cell, show dutiesK kB 0 = ({0, 1} : Finset ℕ) from rfl, bigSep_insert (by decide), bigSep_singleton, payload_cell, payload_cell]
    rfl
  unfold Run pos
  iintro ⟨#HB, ⟨HP, -⟩, ⟨%W, HO, HT, %hg⟩⟩ Hk
  ihave HT := (toks_cons c _ l) $$ HT
  icases HT with ⟨Hc, HT⟩
  ihave Hc := (tok_bWait c) $$ Hc
  rw [show owed c (.bWait :: l) = owed c l from add_zero _]
  unfold WP; rw [run_bWait]
  iapply (Rounds.wp_wait_rest_token 𝒱₀ ER (Rd m) (c : Thread nD τ) none (κ := K (c, kB)) (wpE_semWait_eq 𝒱₀ (c : Thread nD τ) none Set.univ) (Set.mem_univ _)
    0 (O := owed c l) (W := W) (R := 0) (m := 0) (T := ∅) hx) $$ [Hc HO HP]
  · isplitr; · iapply (bank_inv m K Ks c kB); iexact HB
    isplitl [Hc]; · iexact Hc
    isplitl [HO]; · iexact HO
    isplitr
    · iapply (may_bWait m K Ks c hg); iexact HB
    iexact HP
  iintro ⟨HO, HP, HR, Hpay⟩
  ihave Hp := (Entails.of_eq hp) $$ Hpay
  icases Hp with ⟨H1, H2⟩
  iapply Hk
  isplitl [HP HR]
  · isplitl [HP]; · iexact HP
    iexact HR
  isplitl [H1]; · iexact H1
  isplitl [H2]; · iexact H2
  iexists _
  isplitl [HO]; · iexact HO
  isplitl [HT]; · iexact HT
  ipureintro; exact good_tail hg

end Steps

end Cert.Proof

end
-- ==== Proof.Streams.lean ====
/-
  One stream through its hops: what device `c` holds of stream `(d, e)` before each hop, and what a hop's transfers
  make of it.
-/
module

public import proofs.«01_k».proof.Proof.Steps

@[expose] public section

set_option maxRecDepth 20000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

theorem hops_ge (d e : Bool) : 15 ≤ hops d e := by cases d <;> cases e <;> decide
theorem hops_le (d e : Bool) : hops d e ≤ 16 := by cases d <;> cases e <;> decide

section Streams

variable (m : (ℓ : Loc nD τ sig) → Buf (Elt F) ℓ) (K : Dev nD × Kd → ℕ) (Ks : Key → ℕ) (c : Dev nD) (d e : Bool)

/-- The share of its own half of `x` a stream lends; -/
abbrev halfX : sProp 𝕄 := owns (c : Thread nD τ) (halfM e) (xq d) (val m c d e 0)
/-- the credit for the send of hop `h`; -/
abbrev sndC (h : ℕ) : sProp 𝕄 := cred (tallyAt (cell c (kS d e (ph h))) h N)
/-- the slot that landed at hop `h`, at share `q`. -/
abbrev got (q : PosShare TreeShare) (h : ℕ) : sProp 𝕄 := owns (c : Thread nD τ) (slotM d e (ph h)) q (val m c d e h)

/-- Before hop 0, -/
def St0 : sProp 𝕄 :=
  iprop(sndP c d e 0 ∗ rcvP c d e 0 ∗ crdP c d e 0 ∗ anyS c d e 0 ∗ halfX m c d e ∗ lend (toward c d) d e)
/-- before hop 1, -/
def St1 : sProp 𝕄 :=
  iprop(sndP c d e 0 ∗ rcvP c d e 0 ∗ crdP c d e 0 ∗ anyS c d e 0 ∗ sndC c d e 0 ∗ anyS (toward c d) d e 2)
/-- before hop `g + 2`, not the last, -/
def StM (g : ℕ) : sProp 𝕄 :=
  iprop(sndP c d e (g + 1) ∗ rcvP c d e (g + 1) ∗ crdP c d e g ∗ rel c d e (g + 1) ∗ got m c d e fullShare.right (g + 1) ∗ sndC c d e (g + 1)
    ∗ halfX m c d e)
/-- before the last hop, `g + 3`, -/
def StL (g : ℕ) : sProp 𝕄 :=
  iprop(sndP c d e (g + 2) ∗ rcvP c d e (g + 2) ∗ crdP c d e (g + 1) ∗ got m c d e fullShare.right (g + 2) ∗ sndC c d e (g + 2)
    ∗ halfX m c d e ∗ anyS c d e (ph (g + 1)))
/-- and after it. -/
def StE (g : ℕ) : sProp 𝕄 :=
  iprop(sndP c d e (g + 3) ∗ rcvP c d e (g + 3) ∗ crdP c d e (g + 1) ∗ got m c d e fullShare (g + 3) ∗ halfX m c d e
    ∗ anyS c d e (ph (g + 1)) ∗ anyS c d e (ph (g + 2)))

/-- Before hop `h`. -/
def St (h : ℕ) : sProp 𝕄 :=
  if h = 0 then St0 m c d e else if h = 1 then St1 c d e else if h < hops d e then StM m c d e (h - 2)
    else if h = hops d e then StL m c d e (hops d e - 3) else StE m c d e (hops d e - 3)

theorem St_zero : St m c d e 0 = St0 m c d e := if_pos rfl
theorem St_one : St m c d e 1 = St1 c d e := (if_neg (by decide)).trans (if_pos rfl)
theorem St_mid (g : ℕ) (hg : g + 3 ≤ hops d e) : St m c d e (g + 2) = StM m c d e g :=
  (if_neg (by omega)).trans ((if_neg (by omega)).trans (if_pos (by omega)))
theorem St_last (g : ℕ) (hg : hops d e = g + 3) : St m c d e (g + 3) = StL m c d e g := by
  unfold St
  rw [if_neg (by omega), if_neg (by omega), if_neg (by omega), if_pos hg.symm, show hops d e - 3 = g from by omega]
theorem St_end (g h : ℕ) (hg : hops d e = g + 3) (hh : g + 3 < h) : St m c d e h = StE m c d e g := by
  unfold St
  rw [if_neg (by omega), if_neg (by omega), if_neg (by omega), if_neg (by omega), show hops d e - 3 = g from by omega]

theorem snd_reached (h : ℕ) : (sndP c d e h : sProp 𝕄) ⊢ iprop(sndP c d e h ∗ reached ER (cell c (kS d e (ph h))) (h / 3)) := by
  unfold sndP
  iintro ⟨H0, H1, H2⟩
  ihave H := (pos_reached c _ _) $$ H0
  icases H with ⟨H0, #HR⟩
  isplitl [H0 H1 H2]
  · isplitl [H0]; · iexact H0
    isplitl [H1] <;> iassumption
  iexact HR
theorem rcv_reached (h : ℕ) :
    (rcvP c d e (h + 1) : sProp 𝕄) ⊢ iprop(rcvP c d e (h + 1) ∗ reached ER (cell c (kR d e (ph h))) ((h + 2) / 3)) := by
  unfold rcvP
  iintro ⟨H0, H1, H2⟩
  ihave H := (pos_reached c _ _) $$ H1
  icases H with ⟨H1, #HR⟩
  isplitl [H0 H1 H2]
  · isplitl [H0]; · iexact H0
    isplitl [H1] <;> iassumption
  rw [show h + 1 + 2 = h + 3 from rfl, ph_add]
  iexact HR

theorem rel_zero : Bank m K Ks ⊢ rel c d e 0 := by
  unfold rel; rw [Finset.range_zero, bigSep_empty]; iintro -; iempintro

/-- A slot read out is whole again. -/
theorem slot_back (h : ℕ) :
    iprop(owns (c : Thread nD τ) (srcM d e (h + 1)) (sq d (h + 1)) (val m c d e (h + 1)) ∗ got m c d e fullShare.right (h + 1))
      ⊢ anyS c d e (ph (h + 1)) := by
  have h1 : iprop(got m c d e fullShare.left (h + 1) ∗ got m c d e fullShare.right (h + 1)) ⊢ got m c d e fullShare (h + 1) :=
    (owns_halves _ _ _ _).2
  exact h1.trans (anyS_of_owns c d e _ _)
theorem slot_split (h : ℕ) :
    got m c d e fullShare (h + 1)
      ⊢ iprop(owns (c : Thread nD τ) (srcM d e (h + 1)) (sq d (h + 1)) (val m c d e (h + 1)) ∗ got m c d e fullShare.right (h + 1)) :=
  (owns_halves _ _ _ _).1

variable (l : List Step)

theorem prep_0 (Φ : PUnit → sProp 𝕄) :
    iprop(Bank m K Ks ∗ St0 m c d e ∗ Run c (.send d e 0 :: l))
      ⊢ iprop(((St1 c d e ∗ Run c l) -∗ WP c l Φ) -∗ WP c (.send d e 0 :: l) Φ) := by
  unfold St0 St1 lend halfX sndC
  iintro ⟨#HB, ⟨Hs, Hr, Hc, Ha, HX, H1, H2⟩, HR⟩ Hk
  ihave Hs := (snd_reached c d e 0) $$ Hs
  icases Hs with ⟨Hs, #Hre⟩
  iapply (step_send m K Ks c Φ d e 0 (by have := hops_ge d e; omega) l) $$ [HX H1 HR]
  · isplitr; · iexact HB
    isplitl [HX]; · iexact HX
    isplitl [H1]; · iexact H1
    isplitr; · iapply (bank_reached m K Ks (toward c d) (kR d e (ph 1))); iexact HB
    isplitr; · iexact Hre
    iexact HR
  iintro ⟨Hcr, HR⟩
  iapply Hk
  isplitr [HR]
  · isplitl [Hs]; · iexact Hs
    isplitl [Hr]; · iexact Hr
    isplitl [Hc]; · iexact Hc
    isplitl [Ha]; · iexact Ha
    isplitl [Hcr]; · iexact Hcr
    iexact H2
  iexact HR

theorem prep_1 (Φ : PUnit → sProp 𝕄) :
    iprop(Bank m K Ks ∗ St1 c d e ∗ Run c (.wSend d e 0 :: .wRecv d e 0 :: .credit d e 0 :: .send d e 1 :: l))
      ⊢ iprop(((StM m c d e 0 ∗ Run c l) -∗ WP c l Φ) -∗ WP c (.wSend d e 0 :: .wRecv d e 0 :: .credit d e 0 :: .send d e 1 :: l) Φ) := by
  have hH := hops_ge d e
  unfold St1 StM halfX sndC
  iintro ⟨#HB, ⟨Hs, Hr, Hc, Ha, Hcr, H2⟩, HR⟩ Hk
  iapply (step_wSend m K Ks c Φ d e 0 (by omega) _) $$ [Hs Hcr HR]
  · isplitr; · iexact HB
    isplitl [Hcr]; · iexact Hcr
    isplitl [Hs]; · iexact Hs
    iexact HR
  iintro ⟨HX, Hs, HR⟩
  iapply (step_wRecv m K Ks c Φ d e 0 (by omega) _) $$ [Hr HR]
  · isplitr; · iexact HB
    isplitl [Hr]; · iexact Hr
    iexact HR
  iintro ⟨Hn, Hr, HR⟩
  ihave Hr := (rcv_reached c d e 0) $$ Hr
  icases Hr with ⟨Hr, #Hrr⟩
  iapply (step_credit m K Ks c Φ d e 0 (by omega) _) $$ [Ha HR]
  · isplitr; · iexact HB
    isplitl [Ha]; · iexact Ha
    isplitr; · iexact Hrr
    isplitr
    · iapply (rel_zero m K Ks c d e); iexact HB
    iexact HR
  iintro ⟨#Hrel, HR⟩
  ihave Hs := (snd_reached c d e 1) $$ Hs
  icases Hs with ⟨Hs, #Hre⟩
  ihave Hn := (slot_split m c d e 0) $$ Hn
  icases Hn with ⟨Hn1, Hn2⟩
  iapply (step_send m K Ks c Φ d e 1 (by omega) l) $$ [Hn1 H2 HR]
  · isplitr; · iexact HB
    isplitl [Hn1]; · iexact Hn1
    isplitl [H2]; · iexact H2
    isplitr; · iapply (bank_reached m K Ks (toward c d) (kR d e (ph 2))); iexact HB
    isplitr; · iexact Hre
    iexact HR
  iintro ⟨Hcr, HR⟩
  iapply Hk
  isplitr [HR]
  · isplitl [Hs]; · iexact Hs
    isplitl [Hr]; · iexact Hr
    isplitl [Hc]; · iexact Hc
    isplitr; · iexact Hrel
    isplitl [Hn2]; · iexact Hn2
    isplitl [Hcr]; · iexact Hcr
    iexact HX
  iexact HR

theorem prep_mid (Φ : PUnit → sProp 𝕄) (g : ℕ) (hg : g + 4 ≤ hops d e) :
    iprop(Bank m K Ks ∗ StM m c d e g ∗ Run c (.wSend d e (g + 1) :: .wRecv d e (g + 1) :: .credit d e (g + 1) :: .wCredit d e g :: .send d e (g + 2) :: l))
      ⊢ iprop(((StM m c d e (g + 1) ∗ Run c l) -∗ WP c l Φ)
          -∗ WP c (.wSend d e (g + 1) :: .wRecv d e (g + 1) :: .credit d e (g + 1) :: .wCredit d e g :: .send d e (g + 2) :: l) Φ) := by
  unfold StM sndC
  iintro ⟨#HB, ⟨Hs, Hr, Hc, #Hrel, Hg, Hcr, HX⟩, HR⟩ Hk
  iapply (step_wSend m K Ks c Φ d e (g + 1) (by omega) _) $$ [Hs Hcr HR]
  · isplitr; · iexact HB
    isplitl [Hcr]; · iexact Hcr
    isplitl [Hs]; · iexact Hs
    iexact HR
  iintro ⟨Hb, Hs, HR⟩
  iapply (step_wRecv m K Ks c Φ d e (g + 1) (by omega) _) $$ [Hr HR]
  · isplitr; · iexact HB
    isplitl [Hr]; · iexact Hr
    iexact HR
  iintro ⟨Hn, Hr, HR⟩
  ihave Hr := (rcv_reached c d e (g + 1)) $$ Hr
  icases Hr with ⟨Hr, #Hrr⟩
  ihave Ha := (slot_back m c d e g) $$ [Hb Hg]
  · isplitl [Hb] <;> iassumption
  iapply (step_credit m K Ks c Φ d e (g + 1) (by omega) _) $$ [Ha HR]
  · isplitr; · iexact HB
    isplitl [Ha]; · iexact Ha
    isplitr; · iexact Hrr
    isplitr; · iexact Hrel
    iexact HR
  iintro ⟨#Hrel', HR⟩
  iapply (step_wCredit m K Ks c Φ d e g (by omega) _) $$ [Hc HR]
  · isplitr; · iexact HB
    isplitl [Hc]; · iexact Hc
    iexact HR
  iintro ⟨Hc, Hd, #Hrd, HR⟩
  ihave Hs := (snd_reached c d e (g + 2)) $$ Hs
  icases Hs with ⟨Hs, #Hre⟩
  ihave Hn := (slot_split m c d e (g + 1)) $$ Hn
  icases Hn with ⟨Hn1, Hn2⟩
  iapply (step_send m K Ks c Φ d e (g + 2) (by omega) l) $$ [Hn1 Hd HR]
  · isplitr; · iexact HB
    isplitl [Hn1]; · iexact Hn1
    rw [show g + 2 + 1 = g + 3 from rfl, ph_add]
    isplitl [Hd]; · iexact Hd
    isplitr; · iexact Hrd
    isplitr; · iexact Hre
    iexact HR
  iintro ⟨Hcr, HR⟩
  iapply Hk
  isplitr [HR]
  · isplitl [Hs]; · iexact Hs
    isplitl [Hr]; · iexact Hr
    isplitl [Hc]; · iexact Hc
    isplitr; · iexact Hrel'
    isplitl [Hn2]; · iexact Hn2
    isplitl [Hcr]; · iexact Hcr
    iexact HX
  iexact HR

theorem prep_late (Φ : PUnit → sProp 𝕄) (g : ℕ) (hg : hops d e = g + 3) :
    iprop(Bank m K Ks ∗ StM m c d e g ∗ Run c (.wSend d e (g + 1) :: .wRecv d e (g + 1) :: .wCredit d e g :: .send d e (g + 2) :: l))
      ⊢ iprop(((StL m c d e g ∗ Run c l) -∗ WP c l Φ)
          -∗ WP c (.wSend d e (g + 1) :: .wRecv d e (g + 1) :: .wCredit d e g :: .send d e (g + 2) :: l) Φ) := by
  unfold StM StL sndC
  iintro ⟨#HB, ⟨Hs, Hr, Hc, #Hrel, Hg, Hcr, HX⟩, HR⟩ Hk
  iapply (step_wSend m K Ks c Φ d e (g + 1) (by omega) _) $$ [Hs Hcr HR]
  · isplitr; · iexact HB
    isplitl [Hcr]; · iexact Hcr
    isplitl [Hs]; · iexact Hs
    iexact HR
  iintro ⟨Hb, Hs, HR⟩
  iapply (step_wRecv m K Ks c Φ d e (g + 1) (by omega) _) $$ [Hr HR]
  · isplitr; · iexact HB
    isplitl [Hr]; · iexact Hr
    iexact HR
  iintro ⟨Hn, Hr, HR⟩
  ihave Ha := (slot_back m c d e g) $$ [Hb Hg]
  · isplitl [Hb] <;> iassumption
  iapply (step_wCredit m K Ks c Φ d e g (by omega) _) $$ [Hc HR]
  · isplitr; · iexact HB
    isplitl [Hc]; · iexact Hc
    iexact HR
  iintro ⟨Hc, Hd, #Hrd, HR⟩
  ihave Hs := (snd_reached c d e (g + 2)) $$ Hs
  icases Hs with ⟨Hs, #Hre⟩
  ihave Hn := (slot_split m c d e (g + 1)) $$ Hn
  icases Hn with ⟨Hn1, Hn2⟩
  iapply (step_send m K Ks c Φ d e (g + 2) (by omega) l) $$ [Hn1 Hd HR]
  · isplitr; · iexact HB
    isplitl [Hn1]; · iexact Hn1
    rw [show g + 2 + 1 = g + 3 from rfl, ph_add]
    isplitl [Hd]; · iexact Hd
    isplitr; · iexact Hrd
    isplitr; · iexact Hre
    iexact HR
  iintro ⟨Hcr, HR⟩
  iapply Hk
  isplitr [HR]
  · isplitl [Hs]; · iexact Hs
    isplitl [Hr]; · iexact Hr
    isplitl [Hc]; · iexact Hc
    isplitl [Hn2]; · iexact Hn2
    isplitl [Hcr]; · iexact Hcr
    isplitl [HX]; · iexact HX
    iexact Ha
  iexact HR

theorem prep_last (Φ : PUnit → sProp 𝕄) (g : ℕ) (hg : hops d e = g + 3) :
    iprop(Bank m K Ks ∗ StL m c d e g ∗ Run c (.wSend d e (g + 2) :: .wRecv d e (g + 2) :: l))
      ⊢ iprop(((StE m c d e g ∗ Run c l) -∗ WP c l Φ) -∗ WP c (.wSend d e (g + 2) :: .wRecv d e (g + 2) :: l) Φ) := by
  unfold StL StE sndC
  iintro ⟨#HB, ⟨Hs, Hr, Hc, Hg, Hcr, HX, Ha⟩, HR⟩ Hk
  iapply (step_wSend m K Ks c Φ d e (g + 2) (by omega) _) $$ [Hs Hcr HR]
  · isplitr; · iexact HB
    isplitl [Hcr]; · iexact Hcr
    isplitl [Hs]; · iexact Hs
    iexact HR
  iintro ⟨Hb, Hs, HR⟩
  iapply (step_wRecv m K Ks c Φ d e (g + 2) (by omega) _) $$ [Hr HR]
  · isplitr; · iexact HB
    isplitl [Hr]; · iexact Hr
    iexact HR
  iintro ⟨Hn, Hr, HR⟩
  ihave Hz := (slot_back m c d e (g + 1)) $$ [Hb Hg]
  · isplitl [Hb] <;> iassumption
  iapply Hk
  isplitr [HR]
  · isplitl [Hs]; · iexact Hs
    isplitl [Hr]; · iexact Hr
    isplitl [Hc]; · iexact Hc
    isplitl [Hn]; · iexact Hn
    isplitl [HX]; · iexact HX
    isplitl [Ha]; · iexact Ha
    iexact Hz
  iexact HR

/-- Any hop's transfers. -/
theorem prep_step (Φ : PUnit → sProp 𝕄) (h : ℕ) :
    iprop(Bank m K Ks ∗ St m c d e h ∗ Run c (prep d e h ++ l))
      ⊢ iprop(((St m c d e (h + 1) ∗ Run c l) -∗ WP c l Φ) -∗ WP c (prep d e h ++ l) Φ) := by
  have hge := hops_ge d e
  obtain ⟨G, hG⟩ : ∃ G, hops d e = G + 3 := ⟨hops d e - 3, by omega⟩
  rcases h with _ | _ | g
  · have hp : prep d e 0 ++ l = .send d e 0 :: l := by
      unfold prep; rw [if_neg (by omega), if_neg (by omega), if_neg (by omega), if_pos (by omega)]; rfl
    rw [hp, St_zero, St_one]
    exact prep_0 m K Ks c d e l Φ
  · have hp : prep d e 1 ++ l = .wSend d e 0 :: .wRecv d e 0 :: .credit d e 0 :: .send d e 1 :: l := by
      unfold prep; rw [if_pos (by omega), if_pos (by omega), if_neg (by omega), if_pos (by omega)]; rfl
    rw [hp, St_one, St_mid m c d e 0 (by omega)]
    exact prep_1 m K Ks c d e l Φ
  · rcases Nat.lt_trichotomy g (G + 1) with hlt | rfl | hgt
    · rcases Nat.lt_or_ge g G with hlt' | hge'
      · have hp : prep d e (g + 2) ++ l
            = .wSend d e (g + 1) :: .wRecv d e (g + 1) :: .credit d e (g + 1) :: .wCredit d e g :: .send d e (g + 2) :: l := by
          unfold prep; rw [if_pos (by omega), if_pos (by omega), if_pos (by omega), if_pos (by omega)]; rfl
        rw [hp, St_mid m c d e g (by omega), St_mid m c d e (g + 1) (by omega)]
        exact prep_mid m K Ks c d e l Φ g (by omega)
      · obtain rfl : g = G := by omega
        have hp : prep d e (g + 2) ++ l = .wSend d e (g + 1) :: .wRecv d e (g + 1) :: .wCredit d e g :: .send d e (g + 2) :: l := by
          unfold prep; rw [if_pos (by omega), if_neg (by omega), if_pos (by omega), if_pos (by omega)]; rfl
        rw [hp, St_mid m c d e g (by omega), St_last m c d e g hG]
        exact prep_late m K Ks c d e l Φ g hG
    · have hp : prep d e (G + 1 + 2) ++ l = .wSend d e (G + 2) :: .wRecv d e (G + 2) :: l := by
        unfold prep; rw [if_pos (by omega), if_neg (by omega), if_neg (by omega), if_neg (by omega)]; rfl
      rw [hp, show G + 1 + 2 = G + 3 from rfl, St_last m c d e G hG, St_end m c d e G (G + 3 + 1) hG (by omega)]
      exact prep_last m K Ks c d e l Φ G hG
    · have hp : prep d e (g + 2) ++ l = l := by
        unfold prep; rw [if_neg (by omega), if_neg (by omega), if_neg (by omega), if_neg (by omega)]; rfl
      rw [hp, St_end m c d e G (g + 2) hG (by omega), St_end m c d e G (g + 2 + 1) hG (by omega)]
      iintro ⟨-, HS, HR⟩ Hk
      iapply Hk
      isplitl [HS] <;> iassumption

/-- What landed at hop `h` can be read, and put back. -/
theorem St_peek (h : ℕ) (h1 : 1 ≤ h) (h2 : h ≤ hops d e) :
    St m c d e (h + 1) ⊢ iprop(∃ q, got m c d e q h ∗ (got m c d e q h -∗ St m c d e (h + 1))) := by
  have hge := hops_ge d e
  obtain ⟨G, hG⟩ : ∃ G, hops d e = G + 3 := ⟨hops d e - 3, by omega⟩
  obtain ⟨g, rfl⟩ : ∃ g, h = g + 1 := ⟨h - 1, by omega⟩
  rcases Nat.lt_trichotomy g (G + 1) with hlt | rfl | hgt
  · rw [St_mid m c d e g (by omega)]
    unfold StM
    iintro ⟨Hs, Hr, Hc, Hrel, Hg, Hcr, HX⟩
    iexists fullShare.right
    isplitl [Hg]; · iexact Hg
    iintro Hg
    isplitl [Hs]; · iexact Hs
    isplitl [Hr]; · iexact Hr
    isplitl [Hc]; · iexact Hc
    isplitl [Hrel]; · iexact Hrel
    isplitl [Hg]; · iexact Hg
    isplitl [Hcr]; · iexact Hcr
    iexact HX
  · rw [show G + 1 + 1 + 1 = G + 3 from rfl, St_last m c d e G hG]
    unfold StL
    iintro ⟨Hs, Hr, Hc, Hg, Hcr, HX, Ha⟩
    iexists fullShare.right
    isplitl [Hg]; · iexact Hg
    iintro Hg
    isplitl [Hs]; · iexact Hs
    isplitl [Hr]; · iexact Hr
    isplitl [Hc]; · iexact Hc
    isplitl [Hg]; · iexact Hg
    isplitl [Hcr]; · iexact Hcr
    isplitl [HX]; · iexact HX
    iexact Ha
  · obtain rfl : g = G + 2 := by omega
    rw [St_end m c d e G (G + 2 + 1 + 1) hG (by omega)]
    unfold StE
    iintro ⟨Hs, Hr, Hc, Hg, HX, Ha, Hb⟩
    iexists fullShare
    isplitl [Hg]; · iexact Hg
    iintro Hg
    isplitl [Hs]; · iexact Hs
    isplitl [Hr]; · iexact Hr
    isplitl [Hc]; · iexact Hc
    isplitl [Hg]; · iexact Hg
    isplitl [HX]; · iexact HX
    isplitl [Ha]; · iexact Ha
    iexact Hb

end Streams

end Cert.Proof

end
-- ==== Proof.Out.lean ====
/-
  The result's buffer: which rows each product stores, and that the steps cover it.
-/
module

public import proofs.«01_k».proof.Proof.Streams
public import Idealize.ShloMosaic.Lib.ValueIdxCore

@[expose] public section

set_option maxRecDepth 20000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx (ix2)

variable {F : FTy → Type} [FloatOps F]

local notation "𝕄" => MT nD τ sig ℕ (Elt F) ℕ UU ℕ

/-! ## The whole result -/

/-- A block of 64 rows times `w`, activated. -/
def payV (X : FVec F S64x4096 .f32) (w : Vec F S4096x64 .f32) : FVec F S64x64 .f32 :=
  geluK S64x64 (matmul dot_S64x4096_S4096x64_S64x64_1_0_0_1_n_n none X
    (shapeCast S4096x64 w shapeCasts_S4096x64_S4096x64) (constant S64x64 .f32 0x00000000#32))

section Whole

variable (m : (ℓ : Loc nD τ sig) → Buf (Elt F) ℓ) (c : Dev nD)

/-- Row `i`'s device, half and row within the half. -/
def rowDev (i : S4096x64.Idx) : Dev nD := ⟨(i 0).val / 128, Nat.div_lt_of_lt_mul (i 0).isLt⟩
def rowHalf (i : S4096x64.Idx) : Bool := decide ((i 0).val % 128 / 64 = 1)
def at64 (i : S4096x64.Idx) : S64x64.Idx := ix2 (⟨(i 0).val % 64, Nat.mod_lt _ (by decide)⟩ : Fin 64) (i 1)
def at128 (i : S4096x64.Idx) : S128x64.Idx := ix2 (⟨(i 0).val % 128, Nat.mod_lt _ (by decide)⟩ : Fin 128) (i 1)

/-- What device `c` computes: its own block's rows whole, every other device's by halves. -/
def outAll (i : S4096x64.Idx) : Elt F .f32 :=
  if rowDev i = c then pay0 (xstg m c) (wstg m c) (at128 i)
  else payV ((halfM (rowHalf i)).view.read (Elt F) (xstg m (rowDev i))) (wstg m c) (at64 i)

/-- The rows a step stores. -/
def covers : Step → S4096x64.Idx → Prop
  | .own, i => rowDev i = c
  | .mult d e j, i => rowDev i = up d (j.val + 1) c ∧ rowHalf i = e
  | _, _ => False

theorem rowsOwn (x : S128x64.Idx) : rowDev ((rO0 c).emb x) = c ∧ at128 ((rO0 c).emb x) = x := by
  have h0 : ((rO0 c).emb x 0).val = 128 * c.val + (x 0).val := by
    show k0_off1 c 0 + 1 * (x 0).val = _
    rw [k0_off1_eq, Nat.one_mul]; rfl
  have h1 : ((rO0 c).emb x 1).val = (x 1).val := by
    show k0_off1 c 1 + 1 * (x 1).val = _
    rw [k0_off1_eq, Nat.one_mul]; exact Nat.zero_add _
  have hx : (x 0).val < 128 := (x 0).isLt
  refine ⟨Fin.ext ?_, funext fun a => ?_⟩
  · show ((rO0 c).emb x 0).val / 128 = _
    omega
  · match a with
    | ⟨0, _⟩ => exact Fin.ext (show ((rO0 c).emb x 0).val % 128 = (x 0).val by omega)
    | ⟨1, _⟩ => exact Fin.ext h1

theorem rowsMult (d e : Bool) (j : Fin 16) (x : S64x64.Idx) :
    rowDev ((rO c d e j).emb x) = up d (j.val + 1) c ∧ rowHalf ((rO c d e j).emb x) = e ∧ at64 ((rO c d e j).emb x) = x := by
  have h0 : ((rO c d e j).emb x 0).val = 128 * (up d (j.val + 1) c).val + 64 * e.toNat + (x 0).val := by
    show cmpOff c d e j.val 0 + 1 * (x 0).val = _
    rw [cmpOff_eq, Nat.one_mul]; rfl
  have h1 : ((rO c d e j).emb x 1).val = (x 1).val := by
    show cmpOff c d e j.val 1 + 1 * (x 1).val = _
    rw [cmpOff_eq, Nat.one_mul]; exact Nat.zero_add _
  have hx : (x 0).val < 64 := (x 0).isLt
  have he : e.toNat < 2 := Bool.toNat_lt e
  refine ⟨Fin.ext ?_, ?_, funext fun a => ?_⟩
  · show ((rO c d e j).emb x 0).val / 128 = _
    omega
  · show decide (((rO c d e j).emb x 0).val % 128 / 64 = 1) = e
    have : ((rO c d e j).emb x 0).val % 128 / 64 = e.toNat := by omega
    rw [this]; cases e <;> rfl
  · match a with
    | ⟨0, _⟩ => exact Fin.ext (show ((rO c d e j).emb x 0).val % 64 = (x 0).val by omega)
    | ⟨1, _⟩ => exact Fin.ext h1

theorem covOwn (i : S4096x64.Idx) (h : covers c .own i) : ∃ x, (rO0 c).emb x = i := by
  have hd : (i 0).val / 128 = c.val := congrArg (fun q : Dev nD => q.val) (show rowDev i = c from h)
  refine ⟨at128 i, funext fun a => ?_⟩
  match a with
  | ⟨0, _⟩ =>
    refine Fin.ext ?_
    show k0_off1 c 0 + 1 * ((i 0).val % 128) = (i 0).val
    rw [k0_off1_eq]; show 128 * c.val + 1 * ((i 0).val % 128) = _; omega
  | ⟨1, _⟩ =>
    refine Fin.ext ?_
    show k0_off1 c 1 + 1 * (i 1).val = (i 1).val
    rw [k0_off1_eq]; show 0 + 1 * (i 1).val = _; omega

theorem covMult (d e : Bool) (j : Fin 16) (i : S4096x64.Idx) (h : covers c (.mult d e j) i) : ∃ x, (rO c d e j).emb x = i := by
  have hd : (i 0).val / 128 = (up d (j.val + 1) c).val := congrArg (fun q : Dev nD => q.val) (show rowDev i = _ from h.1)
  have he : e.toNat = (i 0).val % 128 / 64 := by
    have h2 : decide ((i 0).val % 128 / 64 = 1) = e := h.2
    have hlt : (i 0).val % 128 / 64 < 2 := by omega
    rw [← h2]
    by_cases hq : (i 0).val % 128 / 64 = 1
    · rw [hq]; rfl
    · rw [decide_eq_false hq]; show 0 = _; omega
  refine ⟨at64 i, funext fun a => ?_⟩
  match a with
  | ⟨0, _⟩ =>
    refine Fin.ext ?_
    show cmpOff c d e j.val 0 + 1 * ((i 0).val % 64) = (i 0).val
    rw [cmpOff_eq]; show 128 * (up d (j.val + 1) c).val + 64 * e.toNat + 1 * ((i 0).val % 64) = _; omega
  | ⟨1, _⟩ =>
    refine Fin.ext ?_
    show cmpOff c d e j.val 1 + 1 * (i 1).val = (i 1).val
    rw [cmpOff_eq]; show 0 + 1 * (i 1).val = _; omega

/-- The result's buffer before the steps `l`: final wherever none of them will store. -/
def Out (l : List Step) : sProp 𝕄 :=
  iprop(∃ g : (cc0_stg2_0 : Ref sig .tc).ty.Contents (Elt F), ⌜∀ i, (∀ a ∈ l, ¬ covers c a i) → g i = outAll m c i⌝
    ∗ ((c : Thread nD τ).loc cc0_stg2_0 ↦{fullShare} g))

/-- A store of final values makes the rows it covers final. -/
theorem out_after {r : Rect S4096x64} {a : Step} {l : List Step} {g : (cc0_stg2_0 : Ref sig .tc).ty.Contents (Elt F)} {w : r.shape.Idx → Elt F .f32}
    (hw : ∀ x, w x = outAll m c (r.emb x)) (hc : ∀ i, covers c a i → ∃ x, r.emb x = i)
    (hg : ∀ i, (∀ b ∈ a :: l, ¬ covers c b i) → g i = outAll m c i) (i : S4096x64.Idx) (hi : ∀ b ∈ l, ¬ covers c b i) :
    ((oM : Memref sig .tc .vmem S4096x64 .f32).access r : View sig .tc _ _ _).write (Elt F) g w Finset.univ i = outAll m c i := by
  by_cases hx : ∃ x, r.emb x = i
  · obtain ⟨x, rfl⟩ := hx
    rw [← hw]
    exact View.read_slice_write_emb (v := (oM : Memref sig .tc .vmem S4096x64 .f32).view) r g w (Finset.mem_univ x)
  · rw [View.write_of_not_mem]
    · refine hg i fun b hb => ?_
      rcases List.mem_cons.mp hb with rfl | hb
      · exact fun hcv => hx (hc i hcv)
      · exact hi b hb
    · intro hm
      obtain ⟨x, -, hx'⟩ := Finset.mem_map.mp hm
      exact hx ⟨x, hx'⟩

/-- A step that stores nothing. -/
theorem out_skip (a : Step) (l : List Step) (h : ∀ i, ¬ covers c a i) : Out m c (a :: l) ⊢ Out m c l := by
  unfold Out
  iintro ⟨%g, %hg, H⟩
  iexists g
  isplitr
  · ipureintro
    intro i hi
    refine hg i fun b hb => ?_
    rcases List.mem_cons.mp hb with rfl | hb
    · exact h i
    · exact hi b hb
  iexact H

end Whole

/-! ## The two steps that compute -/

section Compute

variable (m : (ℓ : Loc nD τ sig) → Buf (Elt F) ℓ) (c : Dev nD)

/-- The operands the products read: a share of the device's own block, its columns of `w`. -/
def Env : sProp 𝕄 :=
  iprop(((c : Thread nD τ).loc cc0_stg0_0 ↦{fullShare.left} (xstg m c)) ∗ ((c : Thread nD τ).loc cc0_stg1_0 ↦{fullShare} (wstg m c)))

theorem run_own (l : List Step) :
    (run c (.own :: l) : PT F)
      = .op (.load xM rX.toLoadRect (View.loadsAt_vmem h_S128x4096)) fun (x : Vec F S128x4096 .f32) =>
        .op (.load wM rW.toLoadRect (View.loadsAt_vmem h_S4096x64)) fun (w : Vec F S4096x64 .f32) =>
        .op (.load oM (rO0 c).toLoadRect (View.loadsAt_vmem h_S128x64)) fun (_ : Vec F S128x64 .f32) =>
        .op (.store oM (rO0 c) (pay0 x w) Finset.univ (View.stores_vmem_bits_univ h_S128x64 rfl) (.inl rfl)) fun _ => run c l := rfl
theorem run_mult (d e : Bool) (i : Fin 16) (l : List Step) :
    (run c (.mult d e i :: l) : PT F)
      = .op (.load sM (rS d e (ph (i.val + 1))).toLoadRect (View.loadsAt_vmem h_S1x1x1x64x4096)) fun (v : Vec F S1x1x1x64x4096 .f32) =>
        .op (.load wM rW.toLoadRect (View.loadsAt_vmem h_S4096x64)) fun (w : Vec F S4096x64 .f32) =>
        .op (.load oM (rO c d e i).toLoadRect (View.loadsAt_vmem h_S64x64)) fun (_ : Vec F S64x64 .f32) =>
        .op (.store oM (rO c d e i) (payC v w) Finset.univ (View.stores_vmem_bits_univ h_S64x64 rfl) (.inl rfl)) fun _ => run c l := rfl

theorem hz2 : (![0, 0] : Fin 2 → ℕ) = fun _ => 0 := by decide

theorem read_x (f : (cc0_stg0_0 : Ref sig .tc).ty.Contents (Elt F)) :
    (xM : Memref sig .tc .vmem S128x4096 .f32).view.readAt (Elt F) rX.toLoadRect f = f :=
  Memref.readAt_unit_zero (Elt F) cc0_stg0_0 hz2 _ f
theorem read_w (f : (cc0_stg1_0 : Ref sig .tc).ty.Contents (Elt F)) :
    (wM : Memref sig .tc .vmem S4096x64 .f32).view.readAt (Elt F) rW.toLoadRect f = f :=
  Memref.readAt_unit_zero (Elt F) cc0_stg1_0 hz2 _ f

/-- A product of a block as loaded. -/
theorem payC_eq (v : Vec F S1x1x1x64x4096 .f32) (X : FVec F S64x4096 .f32) (hv : shapeCast S64x4096 v shapeCasts_S1x1x1x64x4096_S64x4096 = X)
    (w : Vec F S4096x64 .f32) : payC v w = payV X w := by
  unfold payC payV; rw [hv]
/-- A slot as loaded is the slot as a block. -/
theorem read_slot (d e : Bool) (k : Fin 3) (f : (cc0_scratch0 : Ref sig .tc).ty.Contents (Elt F)) :
    shapeCast S64x4096 ((sM : Memref sig .tc .vmem S2x2x3x64x4096 .f32).view.readAt (Elt F) (rS d e k).toLoadRect f) shapeCasts_S1x1x1x64x4096_S64x4096
      = (slotM d e k).view.read (Elt F) f := rfl

theorem set_slot (d e : Bool) (k : Fin 3) : (slotM d e k).view.set = (rS d e k).set := by
  have h1 := View.set_reshape ((sM : Memref sig .tc .vmem S2x2x3x64x4096 .f32).view.slice (rS d e k)) (s' := S64x4096) squeezes_S1x1x1x64x4096_S64x4096.numel_eq
  exact h1.trans (View.set_slice_whole cc0_scratch0 (rS d e k))
theorem setOn_slot (d e : Bool) (k : Fin 3) :
    (sM : Memref sig .tc .vmem S2x2x3x64x4096 .f32).view.setOn (rS d e k).toLoadRect.set ⊆ (rS d e k).set := by
  intro i hi
  obtain ⟨x, hx, rfl⟩ := Finset.mem_map.mp hi
  exact hx

/-- The load of a slot. -/
theorem load_slot (Φ : PUnit → sProp 𝕄) (d e : Bool) (k : Fin 3) (q : PosShare TreeShare) (X : FVec F S64x4096 .f32) (p : Vec F S1x1x1x64x4096 .f32 → PT F) :
    (owns (c : Thread nD τ) (slotM d e k) q X : sProp 𝕄)
      ⊢ iprop((∀ v : Vec F S1x1x1x64x4096 .f32, (⌜shapeCast S64x4096 v shapeCasts_S1x1x1x64x4096_S64x4096 = X⌝ ∗ owns (c : Thread nD τ) (slotM d e k) q X)
            -∗ wp frame (wpE (defs₀ (F := F)) 𝒱₀ (c : Thread nD τ) none) Set.univ (p v) Φ)
          -∗ wp frame (wpE (defs₀ (F := F)) 𝒱₀ (c : Thread nD τ) none) Set.univ
              (.op (.load sM (rS d e k).toLoadRect (View.loadsAt_vmem h_S1x1x1x64x4096)) p) Φ) := by
  unfold owns
  rw [set_slot]
  iintro ⟨%f, %hf, H⟩ Hk
  iapply (wp_load 𝒱₀ (c : Thread nD τ) none Set.univ (m := sM) (S := (rS d e k).set) (q := q) (f := f) (setOn_slot d e k)) $$ [H]
  · iexact H
  iintro H
  iapply Hk
  isplitr
  · ipureintro; exact (read_slot d e k f).trans hf
  iexists f
  isplitr
  · ipureintro; exact hf
  iexact H

theorem pay0_eq (x : S128x64.Idx) : pay0 (xstg m c) (wstg m c) x = outAll m c ((rO0 c).emb x) := by
  obtain ⟨h1, h2⟩ := rowsOwn c x
  unfold outAll
  rw [if_pos h1, h2]
theorem payV_eq (d e : Bool) (i : Fin 16) (x : S64x64.Idx) : payV (val m c d e (i.val + 1)) (wstg m c) x = outAll m c ((rO c d e i).emb x) := by
  obtain ⟨h1, h2, h3⟩ := rowsMult c d e i x
  unfold outAll
  rw [if_neg (by rw [h1]; exact up_ne c d i), h1, h2, h3]
  rfl

theorem step_own (Φ : PUnit → sProp 𝕄) (l : List Step) :
    iprop(Env m c ∗ Out m c (.own :: l) ∗ Run c (.own :: l))
      ⊢ iprop(((Env m c ∗ Out m c l ∗ Run c l) -∗ WP c l Φ) -∗ WP c (.own :: l) Φ) := by
  unfold Env Out
  iintro ⟨⟨Hx, Hw⟩, ⟨%g, %hg, Ho⟩, HR⟩ Hk
  ihave HR := (run_skip c .own l rfl) $$ HR
  unfold WP; rw [run_own]
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Ho; iintro Ho
  iapply (wp_store 𝒱₀ (c : Thread nD τ) none Set.univ (m := oM) (r := rO0 c) (Mk := Finset.univ) (Finset.subset_univ _)) $$ Ho; iintro Ho
  iapply Hk
  isplitl [Hx Hw]
  · isplitl [Hx] <;> iassumption
  isplitl [Ho]
  · iexists _
    isplitr; swap; · iexact Ho
    ipureintro
    exact out_after m c (pay0_eq m c) (covOwn c) hg
  iexact HR

theorem step_mult (Φ : PUnit → sProp 𝕄) (d e : Bool) (i : Fin 16) (q : PosShare TreeShare) (l : List Step) :
    iprop(Env m c ∗ got m c d e q (i.val + 1) ∗ Out m c (.mult d e i :: l) ∗ Run c (.mult d e i :: l))
      ⊢ iprop(((Env m c ∗ got m c d e q (i.val + 1) ∗ Out m c l ∗ Run c l) -∗ WP c l Φ) -∗ WP c (.mult d e i :: l) Φ) := by
  unfold Env Out
  iintro ⟨⟨Hx, Hw⟩, Hs, ⟨%g, %hg, Ho⟩, HR⟩ Hk
  ihave HR := (run_skip c (.mult d e i) l rfl) $$ HR
  unfold WP; rw [run_mult]
  iapply (load_slot c Φ d e (ph (i.val + 1)) q (val m c d e (i.val + 1)) _) $$ Hs
  iintro %v ⟨%hv, Hs⟩
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Ho; iintro Ho
  iapply (wp_store 𝒱₀ (c : Thread nD τ) none Set.univ (m := oM) (r := rO c d e i) (Mk := Finset.univ) (Finset.subset_univ _)) $$ Ho; iintro Ho
  iapply Hk
  isplitl [Hx Hw]
  · isplitl [Hx] <;> iassumption
  isplitl [Hs]; · iexact Hs
  isplitl [Ho]
  · iexists _
    isplitr; swap; · iexact Ho
    ipureintro
    refine out_after m c (fun x => ?_) (covMult c d e i) hg
    rw [payC_eq v _ hv]
    exact payV_eq m c d e i x
  iexact HR

end Compute

end Cert.Proof

end
-- ==== Proof.Hops.lean ====
/-
  All four streams through one hop, then through all of them.
-/
module

public import proofs.«01_k».proof.Proof.Out

@[expose] public section

set_option maxRecDepth 20000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- The steps that store something. -/
def stores : Step → Bool
  | .own => true
  | .mult _ _ _ => true
  | _ => false
theorem covers_stores (c : Dev nD) {a : Step} (h : stores a = false) (i : S4096x64.Idx) : ¬ covers c a i := by
  cases a <;> first | exact id | exact absurd h Bool.noConfusion
theorem prep_stores (d e : Bool) (h : ℕ) : ∀ a ∈ prep d e h, stores a = false := by
  have : (prep d e h).all (fun a => !stores a) = true := by
    unfold prep
    simp only [List.all_append, Bool.and_eq_true]
    refine ⟨?_, ?_, ?_, ?_⟩ <;> split <;> rfl
  intro a ha
  have := List.all_eq_true.mp this a ha
  cases hs : stores a
  · rfl
  · rw [hs] at this; exact absurd this (by decide)

section Hops

variable (m : (ℓ : Loc nD τ sig) → Buf (Elt F) ℓ) (K : Dev nD × Kd → ℕ) (Ks : Key → ℕ) (c : Dev nD)

theorem out_skips (l : List Step) : ∀ (p : List Step), (∀ a ∈ p, stores a = false) → (Out m c (p ++ l) ⊢ Out m c l)
  | [], _ => Entails.refl _
  | a :: p, h => (out_skip m c a (p ++ l) (covers_stores c (h a List.mem_cons_self))).trans
      (out_skips l p fun b hb => h b (List.mem_cons_of_mem _ hb))

/-- A stream's transfers, the result's buffer along. -/
theorem prep_out (Φ : PUnit → sProp 𝕄) (d e : Bool) (h : ℕ) (l : List Step) :
    iprop(Bank m K Ks ∗ St m c d e h ∗ Out m c (prep d e h ++ l) ∗ Run c (prep d e h ++ l))
      ⊢ iprop(((St m c d e (h + 1) ∗ Out m c l ∗ Run c l) -∗ WP c l Φ) -∗ WP c (prep d e h ++ l) Φ) := by
  iintro ⟨#HB, HS, HO, HR⟩ Hk
  ihave HO := (out_skips m c l (prep d e h) (prep_stores d e h)) $$ HO
  iapply (prep_step m K Ks c d e l Φ h) $$ [HS HR]
  · isplitr; · iexact HB
    isplitl [HS] <;> iassumption
  iintro ⟨HS, HR⟩
  iapply Hk
  isplitl [HS]; · iexact HS
  isplitl [HO] <;> iassumption

/-- The product of what a stream brought at hop `h`. -/
theorem mult_step (Φ : PUnit → sProp 𝕄) (d e : Bool) (h : ℕ) (l : List Step) :
    iprop(Env m c ∗ St m c d e (h + 1) ∗ Out m c (multAt d e h ++ l) ∗ Run c (multAt d e h ++ l))
      ⊢ iprop(((Env m c ∗ St m c d e (h + 1) ∗ Out m c l ∗ Run c l) -∗ WP c l Φ) -∗ WP c (multAt d e h ++ l) Φ) := by
  by_cases hh : 1 ≤ h ∧ h ≤ hops d e
  · obtain ⟨g, rfl⟩ : ∃ g, h = g + 1 := ⟨h - 1, by omega⟩
    have hg : g < 16 := by have := hops_le d e; omega
    have hp : multAt d e (g + 1) ++ l = .mult d e ⟨g, hg⟩ :: l := by unfold multAt; rw [dif_pos hh]; rfl
    rw [hp]
    iintro ⟨HE, HS, HO, HR⟩ Hk
    ihave HS := (St_peek m c d e (g + 1) hh.1 hh.2) $$ HS
    icases HS with ⟨%q, Hg, Hb⟩
    iapply (step_mult m c Φ d e ⟨g, hg⟩ q l) $$ [HE Hg HO HR]
    · isplitl [HE]; · iexact HE
      isplitl [Hg]; · iexact Hg
      isplitl [HO] <;> iassumption
    iintro ⟨HE, Hg, HO, HR⟩
    iapply Hk
    isplitl [HE]; · iexact HE
    isplitl [Hg Hb]; · iapply Hb; iexact Hg
    isplitl [HO] <;> iassumption
  · have hp : multAt d e h ++ l = l := by unfold multAt; rw [dif_neg hh]; rfl
    rw [hp]
    iintro H Hk
    iapply Hk; iexact H

/-- The four streams before hop `h`. -/
def All (h : ℕ) : sProp 𝕄 :=
  iprop(St m c false false h ∗ St m c true true h ∗ St m c false true h ∗ St m c true false h)

/-- All transfers of a hop. -/
theorem preps_step (Φ : PUnit → sProp 𝕄) (h : ℕ) (l : List Step) :
    iprop(Bank m K Ks ∗ All m c h ∗ Out m c (prep false false h ++ (prep true true h ++ (prep false true h ++ (prep true false h ++ l))))
        ∗ Run c (prep false false h ++ (prep true true h ++ (prep false true h ++ (prep true false h ++ l)))))
      ⊢ iprop(((All m c (h + 1) ∗ Out m c l ∗ Run c l) -∗ WP c l Φ)
          -∗ WP c (prep false false h ++ (prep true true h ++ (prep false true h ++ (prep true false h ++ l)))) Φ) := by
  unfold All
  iintro ⟨#HB, ⟨H1, H2, H3, H4⟩, HO, HR⟩ Hk
  iapply (prep_out m K Ks c Φ false false h _) $$ [H1 HO HR]
  · isplitr; · iexact HB
    isplitl [H1]; · iexact H1
    isplitl [HO] <;> iassumption
  iintro ⟨H1, HO, HR⟩
  iapply (prep_out m K Ks c Φ true true h _) $$ [H2 HO HR]
  · isplitr; · iexact HB
    isplitl [H2]; · iexact H2
    isplitl [HO] <;> iassumption
  iintro ⟨H2, HO, HR⟩
  iapply (prep_out m K Ks c Φ false true h _) $$ [H3 HO HR]
  · isplitr; · iexact HB
    isplitl [H3]; · iexact H3
    isplitl [HO] <;> iassumption
  iintro ⟨H3, HO, HR⟩
  iapply (prep_out m K Ks c Φ true false h _) $$ [H4 HO HR]
  · isplitr; · iexact HB
    isplitl [H4]; · iexact H4
    isplitl [HO] <;> iassumption
  iintro ⟨H4, HO, HR⟩
  iapply Hk
  isplitl [H1 H2 H3 H4]
  · isplitl [H1]; · iexact H1
    isplitl [H2]; · iexact H2
    isplitl [H3] <;> iassumption
  isplitl [HO] <;> iassumption

/-- All products of a hop. -/
theorem mults_step (Φ : PUnit → sProp 𝕄) (h : ℕ) (l : List Step) :
    iprop(Env m c ∗ All m c (h + 1) ∗ Out m c (multAt false false h ++ (multAt true true h ++ (multAt false true h ++ (multAt true false h ++ l))))
        ∗ Run c (multAt false false h ++ (multAt true true h ++ (multAt false true h ++ (multAt true false h ++ l)))))
      ⊢ iprop(((Env m c ∗ All m c (h + 1) ∗ Out m c l ∗ Run c l) -∗ WP c l Φ)
          -∗ WP c (multAt false false h ++ (multAt true true h ++ (multAt false true h ++ (multAt true false h ++ l)))) Φ) := by
  unfold All
  iintro ⟨HE, ⟨H1, H2, H3, H4⟩, HO, HR⟩ Hk
  iapply (mult_step m c Φ false false h _) $$ [HE H1 HO HR]
  · isplitl [HE]; · iexact HE
    isplitl [H1]; · iexact H1
    isplitl [HO] <;> iassumption
  iintro ⟨HE, H1, HO, HR⟩
  iapply (mult_step m c Φ true true h _) $$ [HE H2 HO HR]
  · isplitl [HE]; · iexact HE
    isplitl [H2]; · iexact H2
    isplitl [HO] <;> iassumption
  iintro ⟨HE, H2, HO, HR⟩
  iapply (mult_step m c Φ false true h _) $$ [HE H3 HO HR]
  · isplitl [HE]; · iexact HE
    isplitl [H3]; · iexact H3
    isplitl [HO] <;> iassumption
  iintro ⟨HE, H3, HO, HR⟩
  iapply (mult_step m c Φ true false h _) $$ [HE H4 HO HR]
  · isplitl [HE]; · iexact HE
    isplitl [H4]; · iexact H4
    isplitl [HO] <;> iassumption
  iintro ⟨HE, H4, HO, HR⟩
  iapply Hk
  isplitl [HE]; · iexact HE
  isplitl [H1 H2 H3 H4]
  · isplitl [H1]; · iexact H1
    isplitl [H2]; · iexact H2
    isplitl [H3] <;> iassumption
  isplitl [HO] <;> iassumption

/-- One hop. -/
theorem hop_step (Φ : PUnit → sProp 𝕄) (h : ℕ) (l : List Step) :
    iprop(Bank m K Ks ∗ Env m c ∗ All m c h ∗ Out m c (hop h ++ l) ∗ Run c (hop h ++ l))
      ⊢ iprop(((Env m c ∗ All m c (h + 1) ∗ Out m c l ∗ Run c l) -∗ WP c l Φ) -∗ WP c (hop h ++ l) Φ) := by
  rcases Nat.eq_zero_or_pos h with rfl | hpos
  · have hp : hop 0 ++ l = prep false false 0 ++ (prep true true 0 ++ (prep false true 0 ++ (prep true false 0 ++ (.own :: l)))) := by
      unfold hop; rw [if_pos rfl]; simp only [List.append_assoc, List.cons_append, List.nil_append]
    rw [hp]
    iintro ⟨#HB, HE, HA, HO, HR⟩ Hk
    iapply (preps_step m K Ks c Φ 0 _) $$ [HA HO HR]
    · isplitr; · iexact HB
      isplitl [HA]; · iexact HA
      isplitl [HO] <;> iassumption
    iintro ⟨HA, HO, HR⟩
    iapply (step_own m c Φ l) $$ [HE HO HR]
    · isplitl [HE]; · iexact HE
      isplitl [HO] <;> iassumption
    iintro ⟨HE, HO, HR⟩
    iapply Hk
    isplitl [HE]; · iexact HE
    isplitl [HA]; · iexact HA
    isplitl [HO] <;> iassumption
  · have hp : hop h ++ l = prep false false h ++ (prep true true h ++ (prep false true h ++ (prep true false h
        ++ (multAt false false h ++ (multAt true true h ++ (multAt false true h ++ (multAt true false h ++ l))))))) := by
      unfold hop; rw [if_neg (by omega)]; simp only [List.append_assoc]
    rw [hp]
    iintro ⟨#HB, HE, HA, HO, HR⟩ Hk
    iapply (preps_step m K Ks c Φ h _) $$ [HA HO HR]
    · isplitr; · iexact HB
      isplitl [HA]; · iexact HA
      isplitl [HO] <;> iassumption
    iintro ⟨HA, HO, HR⟩
    iapply (mults_step m c Φ h l) $$ [HE HA HO HR]
    · isplitl [HE]; · iexact HE
      isplitl [HA]; · iexact HA
      isplitl [HO] <;> iassumption
    iexact Hk

/-- All hops. -/
theorem hops_run (Φ : PUnit → sProp 𝕄) : ∀ n h : ℕ,
    iprop(Bank m K Ks ∗ Env m c ∗ All m c h ∗ Out m c (hopsFrom n h) ∗ Run c (hopsFrom n h))
      ⊢ iprop(((Env m c ∗ All m c (h + n) ∗ Out m c [] ∗ Run c []) -∗ WP c [] Φ) -∗ WP c (hopsFrom n h) Φ)
  | 0, h => by
      iintro ⟨-, H⟩ Hk
      iapply Hk; iexact H
  | n + 1, h => by
      have ih := hops_run Φ n (h + 1)
      rw [show h + 1 + n = h + (n + 1) from by omega] at ih
      rw [show hopsFrom (n + 1) h = hop h ++ hopsFrom n (h + 1) from rfl]
      iintro ⟨#HB, H⟩ Hk
      iapply (hop_step m K Ks c Φ h (hopsFrom n (h + 1))) $$ [H]
      · isplitr; · iexact HB
        iexact H
      iintro H
      iapply ih $$ [H]
      · isplitr; · iexact HB
        iexact H
      iexact Hk

/-! ## The whole body -/

/-- A stream before the barrier. -/
def Pre (d e : Bool) : sProp 𝕄 := iprop(sndP c d e 0 ∗ rcvP c d e 0 ∗ crdP c d e 0 ∗ anyS c d e 0 ∗ halfX m c d e)

theorem pre_lend (d e : Bool) : iprop(Pre m c d e ∗ lend (toward c d) d e) ⊢ St m c d e 0 := by
  rw [St_zero]; unfold Pre St0
  iintro ⟨⟨H1, H2, H3, H4, H5⟩, H6⟩
  isplitl [H1]; · iexact H1
  isplitl [H2]; · iexact H2
  isplitl [H3]; · iexact H3
  isplitl [H4]; · iexact H4
  isplitl [H5] <;> iassumption

/-- All streams before the barrier. -/
def Pres : sProp 𝕄 := iprop(Pre m c false false ∗ Pre m c true true ∗ Pre m c false true ∗ Pre m c true false)
/-- The landing slots a device hands out. -/
def Lends : sProp 𝕄 := iprop((lend c false false ∗ lend c false true) ∗ (lend c true false ∗ lend c true true))

theorem steps_run (Φ : PUnit → sProp 𝕄) :
    iprop(Bank m K Ks ∗ pos c kB 0 ∗ Lends c ∗ Pres m c ∗ Env m c ∗ Out m c steps ∗ Run c steps)
      ⊢ iprop(((pos c kB 1 ∗ Env m c ∗ All m c 17 ∗ Out m c [] ∗ Run c []) -∗ WP c [] Φ) -∗ WP c steps Φ) := by
  unfold Lends Pres
  rw [show steps = [.bSig true, .bSig false, .bWait] ++ hopsFrom 17 0 from rfl]
  iintro ⟨#HB, HP, ⟨⟨L1, L2⟩, ⟨L3, L4⟩⟩, ⟨P1, P2, P3, P4⟩, HE, HO, HR⟩ Hk
  ihave HO := (out_skips m c (hopsFrom 17 0) [.bSig true, .bSig false, .bWait] (by
    intro a ha
    simp only [List.mem_cons, List.not_mem_nil, or_false] at ha
    rcases ha with rfl | rfl | rfl <;> rfl)) $$ HO
  iapply (step_bSig m K Ks c Φ true _) $$ [L1 L2 HR]
  · isplitr; · iexact HB
    isplitl [L1]; · iexact L1
    isplitl [L2]; · iexact L2
    iexact HR
  iintro HR
  iapply (step_bSig m K Ks c Φ false _) $$ [L3 L4 HR]
  · isplitr; · iexact HB
    isplitl [L3]; · iexact L3
    isplitl [L4]; · iexact L4
    iexact HR
  iintro HR
  iapply (step_bWait m K Ks c Φ _) $$ [HP HR]
  · isplitr; · iexact HB
    isplitl [HP]; · iexact HP
    iexact HR
  unfold barPay
  iintro ⟨HP, ⟨T1, T2⟩, ⟨T3, T4⟩, HR⟩
  iapply (hops_run m K Ks c Φ 17 0) $$ [HE P1 P2 P3 P4 T1 T2 T3 T4 HO HR]
  · isplitr; · iexact HB
    isplitl [HE]; · iexact HE
    isplitl [P1 P2 P3 P4 T1 T2 T3 T4]
    · unfold All
      isplitl [P1 T3]
      · iapply (pre_lend m c false false); isplitl [P1]; · iexact P1
        iexact T3
      isplitl [P2 T2]
      · iapply (pre_lend m c true true); isplitl [P2]; · iexact P2
        iexact T2
      isplitl [P3 T4]
      · iapply (pre_lend m c false true); isplitl [P3]; · iexact P3
        iexact T4
      · iapply (pre_lend m c true false); isplitl [P4]; · iexact P4
        iexact T1
    isplitl [HO]; · iexact HO
    iexact HR
  iintro H
  iapply Hk
  isplitl [HP]; · iexact HP
  iexact H

end Hops

/-! ## The steps cover the result -/

theorem mem_hopsFrom {a : Step} {h : ℕ} (ha : a ∈ hop h) : ∀ n k : ℕ, k ≤ h → h < k + n → a ∈ hopsFrom n k
  | 0, k, h1, h2 => absurd h2 (by omega)
  | n + 1, k, h1, h2 => by
      rw [show hopsFrom (n + 1) k = hop k ++ hopsFrom n (k + 1) from rfl]
      rcases Nat.eq_or_lt_of_le h1 with rfl | hlt
      · exact List.mem_append_left _ ha
      · exact List.mem_append_right _ (mem_hopsFrom ha n (k + 1) hlt (by omega))
theorem mem_steps {a : Step} {h : ℕ} (hh : h < 17) (ha : a ∈ hop h) : a ∈ steps :=
  List.mem_cons_of_mem _ (List.mem_cons_of_mem _ (List.mem_cons_of_mem _ (mem_hopsFrom ha 17 0 (Nat.zero_le _) (by omega))))

theorem own_mem : Step.own ∈ steps :=
  mem_steps (h := 0) (by decide) (by
    unfold hop; rw [if_pos rfl]; simp only [List.mem_append, List.mem_singleton, or_true])
theorem mult_mem (d e : Bool) (i : Fin 16) (hi : i.val + 1 ≤ hops d e) : Step.mult d e i ∈ steps :=
  mem_steps (h := i.val + 1) (by omega) (by
    have hm : Step.mult d e i ∈ multAt d e (i.val + 1) := by
      unfold multAt; rw [dif_pos ⟨by omega, hi⟩]; exact List.mem_singleton_self _
    unfold hop; rw [if_neg (by omega)]
    simp only [List.mem_append]
    cases d <;> cases e <;> simp only [hm, true_or, or_true])

/-- Every other device is a few places away, one way or the other. -/
theorem up_reach (c s : Dev nD) (e : Bool) (h : s ≠ c) : ∃ d : Bool, ∃ i : Fin 16, i.val + 1 ≤ hops d e ∧ up d (i.val + 1) c = s := by
  have hs := invN_lt s
  have hc := invN_lt c
  have hne : invN s.val ≠ invN c.val := fun hq => h (Fin.ext (by rw [← permN_invN s, ← permN_invN c, hq]))
  have key : ∀ (d : Bool) (n : ℕ), (invN c.val + upStep d * n) % 32 = invN s.val → up d n c = s := by
    intro d n hq
    refine Fin.ext ?_
    rw [← permN_invN s, ← permN_invN (up d n c), up_place, hq]
  obtain ⟨t, ht0, ht1, ht⟩ : ∃ t, 1 ≤ t ∧ t ≤ 31 ∧ (invN c.val + t) % 32 = invN s.val :=
    ⟨(invN s.val + 32 - invN c.val) % 32, by omega, by omega, by omega⟩
  by_cases hb : t ≤ hops true e
  · have h16 := hops_le true e
    refine ⟨true, ⟨t - 1, by omega⟩, by show t - 1 + 1 ≤ _; omega, ?_⟩
    show up true (t - 1 + 1) c = s
    refine key true (t - 1 + 1) ?_
    show (invN c.val + 1 * (t - 1 + 1)) % 32 = _
    omega
  · have h31 : hops true e + hops false e = 31 := by cases e <;> rfl
    have h16 := hops_le false e
    refine ⟨false, ⟨31 - t, by omega⟩, by show 31 - t + 1 ≤ _; omega, ?_⟩
    show up false (31 - t + 1) c = s
    refine key false (31 - t + 1) ?_
    show (invN c.val + 31 * (31 - t + 1)) % 32 = _
    omega

theorem steps_cover (c : Dev nD) (i : S4096x64.Idx) : ∃ a ∈ steps, covers c a i := by
  by_cases h : rowDev i = c
  · exact ⟨.own, own_mem, h⟩
  · obtain ⟨d, j, hj, hu⟩ := up_reach c (rowDev i) (rowHalf i) h
    exact ⟨.mult d (rowHalf i) j, mult_mem d _ j hj, hu.symm, rfl⟩

section Ends

variable (m : (ℓ : Loc nD τ sig) → Buf (Elt F) ℓ) (c : Dev nD)

theorem out_start (g : (cc0_stg2_0 : Ref sig .tc).ty.Contents (Elt F)) : ((c : Thread nD τ).loc cc0_stg2_0 ↦{fullShare} g) ⊢ Out m c steps := by
  unfold Out
  iintro H
  iexists g
  isplitr
  · ipureintro
    intro i hi
    obtain ⟨a, ha, hc⟩ := steps_cover c i
    exact absurd hc (hi a ha)
  iexact H
theorem out_done : Out m c [] ⊢ ((c : Thread nD τ).loc cc0_stg2_0 ↦{fullShare} (outAll m c)) := by
  unfold Out
  iintro ⟨%g, %hg, H⟩
  obtain rfl : g = outAll m c := funext fun i => hg i fun a ha => absurd ha List.not_mem_nil
  iexact H

end Ends

end Cert.Proof

end
-- ==== Proof.Bufs.lean ====
/-
  The body's buffers in parts: the block of `x` as a share kept and two lent half by half, the landing buffer as its
  twelve slots; and back.
-/
module

public import proofs.«01_k».proof.Proof.Hops

@[expose] public section

set_option maxRecDepth 20000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The block of `x` -/

/-- The rows of half `e`. -/
def hSet (e : Bool) : Finset S128x4096.Idx := (Rect.unit (s := S128x4096) ![64 * e.toNat, 0] S64x4096.size (inbHalf e)).set
theorem set_half (e : Bool) : (halfM e).view.set = hSet e :=
  View.set_slice_whole cc0_stg0_0 (Rect.unit (s := S128x4096) ![64 * e.toNat, 0] S64x4096.size (inbHalf e))

theorem hSet_disjoint : Disjoint (hSet false) (hSet true) := Rect.unit_disjoint 0 (Or.inl (by decide))
theorem hSet_union : hSet false ∪ hSet true = Finset.univ := by
  refine Finset.eq_univ_iff_forall.mpr fun i => Finset.mem_union.mpr ?_
  have h0 : (i 0).val < 128 := (i 0).isLt
  have h1 : (i 1).val < 4096 := (i 1).isLt
  by_cases h : (i 0).val < 64
  · refine Or.inl (Rect.mem_set_unit.mpr fun a => ?_)
    fin_cases a
    · exact ⟨Nat.zero_le _, h⟩
    · exact ⟨Nat.zero_le _, (Nat.zero_add 4096).symm ▸ h1⟩
  · refine Or.inr (Rect.mem_set_unit.mpr fun a => ?_)
    fin_cases a
    · exact ⟨Nat.not_lt.mp h, h0⟩
    · exact ⟨Nat.zero_le _, (Nat.zero_add 4096).symm ▸ h1⟩

section XBlock

variable (m : (ℓ : Loc nD τ sig) → Buf (Elt F) ℓ) (c : Dev nD)

/-- The block at a share, half by half. -/
theorem x_halves (q : PosShare TreeShare) :
    ((c : Thread nD τ).loc cc0_stg0_0 ↦{q} xstg m c : sProp 𝕄)
      ⊣⊢ iprop(((c : Thread nD τ).loc cc0_stg0_0 ↦[hSet false]{q} xstg m c) ∗ ((c : Thread nD τ).loc cc0_stg0_0 ↦[hSet true]{q} xstg m c)) := by
  have h := pointsTo_union (Ix := ℕ) (Name := ℕ) (U := UU) (Lvl := ℕ) (ℓ := (c : Thread nD τ).loc cc0_stg0_0) (q := q) (f := xstg m c) hSet_disjoint
  rw [hSet_union] at h
  exact h

theorem half_lend (d e : Bool) : ((c : Thread nD τ).loc cc0_stg0_0 ↦[hSet e]{xq d} xstg m c : sProp 𝕄) ⊢ halfX m c d e := by
  unfold halfX owns
  rw [set_half]
  iintro H
  iexists (xstg m c)
  isplitr
  · ipureintro; rfl
  iexact H

theorem half_back (d e : Bool) : halfX m c d e ⊢ ((c : Thread nD τ).loc cc0_stg0_0 ↦[hSet e]{xq d} xstg m c : sProp 𝕄) := by
  unfold halfX owns
  iintro ⟨%f, %hf, H⟩
  have hc : ((halfM e).view.loc (c : Thread nD τ) ↦[(halfM e).view.set]{xq d} f : sProp 𝕄)
      = ((halfM e).view.loc (c : Thread nD τ) ↦[(halfM e).view.set]{xq d} xstg m c) :=
    pointsTo_congr fun i hi => by
      obtain ⟨j, -, rfl⟩ := Finset.mem_map.mp hi
      exact congrFun hf j
  ihave H := (Entails.of_eq hc) $$ H
  rw [set_half]
  iexact H

/-- The whole block: the share kept, and what each stream lends. -/
theorem x_split : ((c : Thread nD τ).loc cc0_stg0_0 ↦{fullShare} xstg m c : sProp 𝕄)
    ⊢ iprop(((c : Thread nD τ).loc cc0_stg0_0 ↦{fullShare.left} xstg m c)
        ∗ halfX m c false false ∗ halfX m c true true ∗ halfX m c false true ∗ halfX m c true false) := by
  iintro H
  ihave H := (pointsTo_share (PosShare.mem_left_op_right fullShare)).1 $$ H
  icases H with ⟨HL, HR⟩
  ihave HR := (pointsTo_share (PosShare.mem_left_op_right fullShare.right)).1 $$ HR
  icases HR with ⟨H1, H2⟩
  ihave H1 := (x_halves m c fullShare.right.left).1 $$ H1
  icases H1 with ⟨H1, H3⟩
  ihave H2 := (x_halves m c fullShare.right.right).1 $$ H2
  icases H2 with ⟨H4, H2⟩
  isplitl [HL]; · iexact HL
  isplitl [H1]; · iapply (half_lend m c false false); iexact H1
  isplitl [H2]; · iapply (half_lend m c true true); iexact H2
  isplitl [H3]; · iapply (half_lend m c false true); iexact H3
  iapply (half_lend m c true false); iexact H4
theorem x_join : iprop(((c : Thread nD τ).loc cc0_stg0_0 ↦{fullShare.left} xstg m c)
        ∗ halfX m c false false ∗ halfX m c true true ∗ halfX m c false true ∗ halfX m c true false)
    ⊢ ((c : Thread nD τ).loc cc0_stg0_0 ↦{fullShare} xstg m c : sProp 𝕄) := by
  iintro ⟨HL, H1, H2, H3, H4⟩
  iapply (pointsTo_share (PosShare.mem_left_op_right fullShare)).2
  isplitl [HL]; · iexact HL
  iapply (pointsTo_share (PosShare.mem_left_op_right fullShare.right)).2
  isplitl [H1 H3]
  · iapply (x_halves m c fullShare.right.left).2
    isplitl [H1]
    · iapply (half_back m c false false); iexact H1
    · iapply (half_back m c false true); iexact H3
  · iapply (x_halves m c fullShare.right.right).2
    isplitl [H4]
    · iapply (half_back m c true false); iexact H4
    · iapply (half_back m c true true); iexact H2

end XBlock

/-! ## The landing slots -/

/-- The slots' numbers, stream by stream. -/
def slotL (d e : Bool) : List (Bool × Bool × Fin 3) := [(d, e, 0), (d, e, 1), (d, e, 2)]
def slotsL : List (Bool × Bool × Fin 3) := slotL false false ++ (slotL true true ++ (slotL false true ++ slotL true false))
theorem slotsL_univ : (Finset.univ : Finset (Bool × Bool × Fin 3)) = slotsL.toFinset := by decide
theorem slotsL_nodup : slotsL.Nodup := by decide

/-- A slot's elements. -/
def sSet (x : Bool × Bool × Fin 3) : Finset S2x2x3x64x4096.Idx := (rS x.1 x.2.1 x.2.2).set

theorem sSet_disjoint (x y : Bool × Bool × Fin 3) (h : x ≠ y) : Disjoint (sSet x) (sSet y) := by
  obtain ⟨d, e, k⟩ := x
  obtain ⟨d', e', k'⟩ := y
  by_cases hd : d = d'
  · by_cases he : e = e'
    · have hk : k ≠ k' := fun hk => h (by rw [hd, he, hk])
      have hk' : k.val ≠ k'.val := fun hq => hk (Fin.ext hq)
      refine Rect.unit_disjoint (2 : Fin 5) ?_
      show k.val + 1 ≤ k'.val ∨ k'.val + 1 ≤ k.val
      omega
    · refine Rect.unit_disjoint (1 : Fin 5) ?_
      show e.toNat + 1 ≤ e'.toNat ∨ e'.toNat + 1 ≤ e.toNat
      revert he; cases e <;> cases e' <;> decide
  · refine Rect.unit_disjoint (0 : Fin 5) ?_
    show d.toNat + 1 ≤ d'.toNat ∨ d'.toNat + 1 ≤ d.toNat
    revert hd; cases d <;> cases d' <;> decide

theorem toNat_le (n : ℕ) (h : n < 2) : ∃ b : Bool, b.toNat = n :=
  ⟨decide (n = 1), by rcases (by omega : n = 0 ∨ n = 1) with rfl | rfl <;> rfl⟩

theorem sSet_union : Finset.univ.biUnion sSet = Finset.univ := by
  refine Finset.eq_univ_iff_forall.mpr fun i => ?_
  have h0 : (i 0).val < 2 := (i 0).isLt
  have h1 : (i 1).val < 2 := (i 1).isLt
  have h2 : (i 2).val < 3 := (i 2).isLt
  have h3 : (i 3).val < 64 := (i 3).isLt
  have h4 : (i 4).val < 4096 := (i 4).isLt
  obtain ⟨d, hd⟩ := toNat_le _ h0
  obtain ⟨e, he⟩ := toNat_le _ h1
  refine Finset.mem_biUnion.mpr ⟨(d, e, ⟨(i 2).val, h2⟩), Finset.mem_univ _, Rect.mem_set_unit.mpr fun a => ?_⟩
  fin_cases a
  · show d.toNat ≤ (i 0).val ∧ (i 0).val < d.toNat + 1
    omega
  · show e.toNat ≤ (i 1).val ∧ (i 1).val < e.toNat + 1
    omega
  · show (i 2).val ≤ (i 2).val ∧ (i 2).val < (i 2).val + 1
    omega
  · show 0 ≤ (i 3).val ∧ (i 3).val < 0 + 64
    omega
  · show 0 ≤ (i 4).val ∧ (i 4).val < 0 + 4096
    omega

section Slots

variable (c : Dev nD)

/-- A stream's three slots. -/
def three (d e : Bool) : sProp 𝕄 := iprop(anyS c d e 0 ∗ anyS c d e 1 ∗ anyS c d e 2)
/-- Every stream's. -/
def twelve : sProp 𝕄 := iprop(three c false false ∗ three c true true ∗ three c false true ∗ three c true false)

theorem twelve_eq : (bigSep Finset.univ fun x : Bool × Bool × Fin 3 => anyS (F := F) c x.1 x.2.1 x.2.2) = twelve c := by
  rw [bigSep_univ_eq_bigSepL slotsL slotsL_univ slotsL_nodup]
  unfold slotsL
  rw [bigSepL_append, bigSepL_append, bigSepL_append]
  rfl

theorem slot_any (x : Bool × Bool × Fin 3) (f : Buf (Elt F) ((c : Thread nD τ).loc cc0_scratch0)) :
    ((c : Thread nD τ).loc cc0_scratch0 ↦[sSet x]{fullShare} f : sProp 𝕄) ⊢ anyS c x.1 x.2.1 x.2.2 := by
  unfold anyS
  rw [set_slot]
  iintro H
  iexists f
  iexact H

theorem slots_split (f : Buf (Elt F) ((c : Thread nD τ).loc cc0_scratch0)) :
    ((c : Thread nD τ).loc cc0_scratch0 ↦{fullShare} f : sProp 𝕄) ⊢ twelve c := by
  rw [← twelve_eq]
  have h := pointsTo_biUnion (Ix := ℕ) (Name := ℕ) (U := UU) (Lvl := ℕ) (ℓ := (c : Thread nD τ).loc cc0_scratch0) (q := fullShare) (f := f)
    Finset.univ sSet (fun x _ y _ hxy => sSet_disjoint x y hxy)
  rw [sSet_union] at h
  exact (Entails.of_eq h).trans (bigSep_mono fun x _ => slot_any c x f)

theorem slots_join : (twelve c : sProp 𝕄) ⊢ iprop(∃ f : Buf (Elt F) ((c : Thread nD τ).loc cc0_scratch0), (c : Thread nD τ).loc cc0_scratch0 ↦{fullShare} f) := by
  rw [← twelve_eq]
  have h1 : (bigSep Finset.univ fun x : Bool × Bool × Fin 3 => anyS (F := F) c x.1 x.2.1 x.2.2)
      ⊢ bigSep Finset.univ fun x : Bool × Bool × Fin 3 => iprop(∃ f : Buf (Elt F) ((c : Thread nD τ).loc cc0_scratch0),
          (c : Thread nD τ).loc cc0_scratch0 ↦[sSet x]{fullShare} f) := by
    refine bigSep_mono fun x _ => ?_
    unfold anyS
    rw [set_slot]
    exact Entails.refl _
  refine h1.trans ?_
  iintro H
  ihave H := (BI.bigSep_exists_pi Finset.univ (fun (x : Bool × Bool × Fin 3) (f : Buf (Elt F) ((c : Thread nD τ).loc cc0_scratch0)) =>
    ((c : Thread nD τ).loc cc0_scratch0 ↦[sSet x]{fullShare} f : sProp 𝕄))) $$ H
  icases H with ⟨%fs, H⟩
  ihave H := (pointsTo_biUnion_join Finset.univ sSet fs (fs (false, false, 0)) (fun x _ y _ hxy => sSet_disjoint x y hxy)) $$ H
  icases H with ⟨%g, -, H⟩
  iexists g
  rw [sSet_union]
  iexact H

end Slots

end Cert.Proof

end
-- ==== Proof.Close.lean ====
/-
  A device's counters: its positions at the start, dealt to its streams, and its cells closed at the end.
-/
module

public import proofs.«01_k».proof.Proof.Bufs

@[expose] public section

set_option maxRecDepth 20000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The cells, stream by stream -/

def okL (d e : Bool) : List Ok :=
  [.inl (d, e, 0), .inl (d, e, 1), .inl (d, e, 2), .inr (.inl (d, e, 0)), .inr (.inl (d, e, 1)), .inr (.inl (d, e, 2)), .inr (.inr (d, e))]
def oksL : List Ok := okL false false ++ (okL true true ++ (okL false true ++ okL true false))
theorem oksL_univ : (Finset.univ : Finset Ok) = oksL.toFinset := by decide
theorem oksL_nodup : oksL.Nodup := by decide
theorem kdsL_univ : (Finset.univ : Finset Kd) = (none :: oksL.map some).toFinset := by decide
theorem kdsL_nodup : (none :: oksL.map some : List Kd).Nodup := by decide

/-- Something of each of a stream's seven cells. -/
def strm (Φ : Ok → sProp 𝕄) (d e : Bool) : sProp 𝕄 :=
  iprop(Φ (.inl (d, e, 0)) ∗ Φ (.inl (d, e, 1)) ∗ Φ (.inl (d, e, 2))
    ∗ Φ (.inr (.inl (d, e, 0))) ∗ Φ (.inr (.inl (d, e, 1))) ∗ Φ (.inr (.inl (d, e, 2))) ∗ Φ (.inr (.inr (d, e))))
/-- Of every stream's. -/
def strms (Φ : Ok → sProp 𝕄) : sProp 𝕄 := iprop(strm Φ false false ∗ strm Φ true true ∗ strm Φ false true ∗ strm Φ true false)

theorem oksL_eq (Φ : Ok → sProp 𝕄) : bigSepL oksL Φ = strms Φ := by
  unfold oksL
  rw [bigSepL_append, bigSepL_append, bigSepL_append]
  rfl
theorem bigSep_ok (Φ : Ok → sProp 𝕄) : bigSep Finset.univ Φ = strms Φ := by
  rw [bigSep_univ_eq_bigSepL oksL oksL_univ oksL_nodup, oksL_eq]
theorem bigSep_kd (Φ : Kd → sProp 𝕄) : bigSep Finset.univ Φ = iprop(Φ kB ∗ strms fun k => Φ (some k)) := by
  rw [bigSep_univ_eq_bigSepL _ kdsL_univ kdsL_nodup, bigSepL_cons, bigSepL_map, oksL_eq]; rfl

section Close

variable (m : (ℓ : Loc nD τ sig) → Buf (Elt F) ℓ) (K : Dev nD × Kd → ℕ) (Ks : Key → ℕ) (c : Dev nD)

/-! ## At the start -/

theorem strm_start (d e : Bool) : (strm (fun k => pos c (some k) 0) d e : sProp 𝕄) ⊢ iprop(sndP c d e 0 ∗ rcvP c d e 0 ∗ crdP c d e 0) := by
  have h15 := hops_ge d e
  rw [crdP_mid c d e 0 (by omega)]
  unfold strm sndP rcvP
  iintro ⟨S0, S1, S2, R0, R1, R2, C⟩
  isplitl [S0 S1 S2]
  · isplitl [S0]; · iexact S0
    isplitl [S1]; · iexact S1
    iexact S2
  isplitl [R0 R1 R2]
  · isplitl [R1]; · iexact R1
    isplitl [R2]; · iexact R2
    iexact R0
  unfold pos
  icases C with ⟨C, -⟩
  iexists (∅ : Finset ℕ)
  isplitr
  · ipureintro
    exact ⟨Finset.empty_subset _, by rw [Finset.sdiff_empty, Finset.card_range]; omega⟩
  isplitl [C]; · iexact C
  rw [bigSep_empty]
  iempintro

/-! ## At the end -/

theorem close_at (k : Kd) (r : ℕ) (h : ∀ r', r ≤ r' → dutiesK k r' = ∅) :
    iprop(Bank m K Ks ∗ atPos ER (cell c k) r ∅ 0) ⊢ |={Set.univ}=> (semVal (cell c k) 0 : sProp 𝕄) := by
  iintro ⟨#HB, HP⟩
  iapply (Rounds.cell_close ER (Rd m) (Set.mem_univ (K (c, k))) (fun h => h) (R := r) (fun r' hr => by rw [duties_cell]; exact h r' hr))
  isplitr
  · iapply (bank_inv m K Ks c k); iexact HB
  iexact HP

/-- A stream's send cells, by the hop that used them last. -/
theorem close_snd (d e : Bool) (i : ℕ) (hi : hops d e ≤ i) :
    iprop(Bank m K Ks ∗ pos c (kS d e (ph i)) (i / 3)) ⊢ |={Set.univ}=> (semVal (cell c (kS d e (ph i))) 0 : sProp 𝕄) := by
  unfold pos
  iintro ⟨#HB, HP, -⟩
  iapply (close_at m K Ks c (kS d e (ph i)) (i / 3) fun r hr => duties_snd_end d e i r hi hr)
  isplitr; · iexact HB
  iexact HP
theorem close_rcv (d e : Bool) (i : ℕ) (hi : hops d e ≤ i) :
    iprop(Bank m K Ks ∗ pos c (kR d e (ph (i + 1))) (i / 3)) ⊢ |={Set.univ}=> (semVal (cell c (kR d e (ph (i + 1)))) 0 : sProp 𝕄) := by
  unfold pos
  iintro ⟨#HB, HP, -⟩
  iapply (close_at m K Ks c (kR d e (ph (i + 1))) (i / 3) fun r hr => duties_rcv_end d e i r hi hr)
  isplitr; · iexact HB
  iexact HP

/-- Three hops in a row use each slot once. -/
theorem ph_three (P : Fin 3 → sProp 𝕄) (i : ℕ) : iprop(P (ph i) ∗ P (ph (i + 1)) ∗ P (ph (i + 2))) ⊢ iprop(P 0 ∗ P 1 ∗ P 2) := by
  have h0 : ∀ j : ℕ, ∀ k : Fin 3, j % 3 = k.val → ph j = k := fun j k h => Fin.ext h
  iintro ⟨H1, H2, H3⟩
  rcases (by omega : i % 3 = 0 ∨ i % 3 = 1 ∨ i % 3 = 2) with h | h | h
  · rw [h0 i 0 h, h0 (i + 1) 1 (show (i + 1) % 3 = 1 by omega), h0 (i + 2) 2 (show (i + 2) % 3 = 2 by omega)]
    isplitl [H1]; · iexact H1
    isplitl [H2]; · iexact H2
    iexact H3
  · rw [h0 i 1 h, h0 (i + 1) 2 (show (i + 1) % 3 = 2 by omega), h0 (i + 2) 0 (show (i + 2) % 3 = 0 by omega)]
    isplitl [H3]; · iexact H3
    isplitl [H1]; · iexact H1
    iexact H2
  · rw [h0 i 2 h, h0 (i + 1) 0 (show (i + 1) % 3 = 0 by omega), h0 (i + 2) 1 (show (i + 2) % 3 = 1 by omega)]
    isplitl [H2]; · iexact H2
    isplitl [H3]; · iexact H3
    iexact H1

/-- A stream after its last hop: its cells closed, its half of `x` and its slots back. -/
theorem strm_end (d e : Bool) :
    iprop(Bank m K Ks ∗ St m c d e 17)
      ⊢ |={Set.univ}=> iprop(strm (fun k => semVal (cell c (some k)) 0) d e ∗ halfX m c d e ∗ three c d e) := by
  have h15 := hops_ge d e
  have h16 := hops_le d e
  obtain ⟨g, hg⟩ : ∃ g, hops d e = g + 3 := ⟨hops d e - 3, by omega⟩
  rw [St_end m c d e g 17 hg (by omega)]
  unfold StE sndP rcvP
  rw [crdP_end c d e (g + 1) (by omega)]
  iintro ⟨#HB, ⟨S0, S1, S2⟩, ⟨R0, R1, R2⟩, HC, HG, HX, A1, A2⟩
  imod (close_snd m K Ks c d e (g + 3) (by omega)) $$ [S0] with S0
  · isplitr; · iexact HB
    iexact S0
  imod (close_snd m K Ks c d e (g + 3 + 1) (by omega)) $$ [S1] with S1
  · isplitr; · iexact HB
    iexact S1
  imod (close_snd m K Ks c d e (g + 3 + 2) (by omega)) $$ [S2] with S2
  · isplitr; · iexact HB
    iexact S2
  imod (close_rcv m K Ks c d e (g + 3) (by omega)) $$ [R0] with R0
  · isplitr; · iexact HB
    iexact R0
  imod (close_rcv m K Ks c d e (g + 3 + 1) (by omega)) $$ [R1] with R1
  · isplitr; · iexact HB
    iexact R1
  imod (close_rcv m K Ks c d e (g + 3 + 2) (by omega)) $$ [R2] with R2
  · isplitr; · iexact HB
    iexact R2
  imod (close_at m K Ks c (kC d e) 1 fun r hr => duties_crd_end d e r hr) $$ [HC] with HC
  · isplitr; · iexact HB
    iexact HC
  imodintro
  ihave HS := (ph_three (fun k => (semVal (cell c (kS d e k)) 0 : sProp 𝕄)) (g + 3)) $$ [S0 S1 S2]
  · isplitl [S0]; · iexact S0
    isplitl [S1]; · iexact S1
    iexact S2
  ihave HR := (ph_three (fun k => (semVal (cell c (kR d e k)) 0 : sProp 𝕄)) (g + 3 + 1)) $$ [R0 R1 R2]
  · isplitl [R0]; · iexact R0
    isplitl [R1]; · iexact R1
    iexact R2
  ihave A0 := (anyS_of_owns c d e (ph (g + 3)) _) $$ HG
  rw [ph_add g]
  ihave HA := (ph_three (fun k => anyS (F := F) c d e k) g) $$ [A0 A1 A2]
  · isplitl [A0]; · iexact A0
    isplitl [A1]; · iexact A1
    iexact A2
  icases HS with ⟨S0, S1, S2⟩
  icases HR with ⟨R0, R1, R2⟩
  isplitl [S0 S1 S2 R0 R1 R2 HC]
  · unfold strm
    isplitl [S0]; · iexact S0
    isplitl [S1]; · iexact S1
    isplitl [S2]; · iexact S2
    isplitl [R0]; · iexact R0
    isplitl [R1]; · iexact R1
    isplitl [R2]; · iexact R2
    iexact HC
  isplitl [HX]; · iexact HX
  unfold three
  iexact HA

/-- The device's counters at zero. -/
def Zeros : sProp 𝕄 := iprop(semVal (cell c kB) 0 ∗ strms fun k => semVal (cell c (some k)) 0)

theorem all_end :
    iprop(Bank m K Ks ∗ pos c kB 1 ∗ Env m c ∗ All m c 17)
      ⊢ |={Set.univ}=> iprop(Zeros c ∗ ((c : Thread nD τ).loc cc0_stg0_0 ↦{fullShare} xstg m c) ∗ ((c : Thread nD τ).loc cc0_stg1_0 ↦{fullShare} wstg m c)
          ∗ ∃ f : Buf (Elt F) ((c : Thread nD τ).loc cc0_scratch0), (c : Thread nD τ).loc cc0_scratch0 ↦{fullShare} f) := by
  unfold All Env pos
  iintro ⟨#HB, ⟨HP, -⟩, ⟨HX, HW⟩, H1, H2, H3, H4⟩
  imod (close_at m K Ks c kB 1 fun r hr => duties_bar_end r hr) $$ [HP] with HP
  · isplitr; · iexact HB
    iexact HP
  imod (strm_end m K Ks c false false) $$ [H1] with ⟨Z1, X1, T1⟩
  · isplitr; · iexact HB
    iexact H1
  imod (strm_end m K Ks c true true) $$ [H2] with ⟨Z2, X2, T2⟩
  · isplitr; · iexact HB
    iexact H2
  imod (strm_end m K Ks c false true) $$ [H3] with ⟨Z3, X3, T3⟩
  · isplitr; · iexact HB
    iexact H3
  imod (strm_end m K Ks c true false) $$ [H4] with ⟨Z4, X4, T4⟩
  · isplitr; · iexact HB
    iexact H4
  imodintro
  isplitl [HP Z1 Z2 Z3 Z4]
  · unfold Zeros strms
    isplitl [HP]; · iexact HP
    isplitl [Z1]; · iexact Z1
    isplitl [Z2]; · iexact Z2
    isplitl [Z3]; · iexact Z3
    iexact Z4
  isplitl [HX X1 X2 X3 X4]
  · iapply (x_join m c)
    isplitl [HX]; · iexact HX
    isplitl [X1]; · iexact X1
    isplitl [X2]; · iexact X2
    isplitl [X3]; · iexact X3
    iexact X4
  isplitl [HW]; · iexact HW
  iapply (slots_join c)
  unfold twelve
  isplitl [T1]; · iexact T1
  isplitl [T2]; · iexact T2
  isplitl [T3]; · iexact T3
  iexact T4

/-! ## Everything the body starts from -/

/-- The positions of every cell of the device. -/
def Poss : sProp 𝕄 := bigSep Finset.univ fun k : Kd => pos c k 0

theorem pre_intro (d e : Bool) :
    iprop(strm (fun k => pos c (some k) 0) d e ∗ anyS c d e 0 ∗ halfX m c d e) ⊢ Pre m c d e := by
  unfold Pre
  iintro ⟨HP, HA, HX⟩
  ihave HP := (strm_start c d e) $$ HP
  icases HP with ⟨H1, H2, H3⟩
  isplitl [H1]; · iexact H1
  isplitl [H2]; · iexact H2
  isplitl [H3]; · iexact H3
  isplitl [HA]; · iexact HA
  iexact HX

theorem wp_ret_intro (Φ : PUnit → sProp 𝕄) : iprop(|={Set.univ}=> Φ ⟨⟩) ⊢ WP c [] Φ := by
  unfold WP run
  rw [wp_ret]

theorem body_run (Φ : PUnit → sProp 𝕄) (f : Buf (Elt F) ((c : Thread nD τ).loc cc0_scratch0)) (g : (cc0_stg2_0 : Ref sig .tc).ty.Contents (Elt F)) :
    iprop(Bank m K Ks ∗ Poss c ∗ ((c : Thread nD τ).loc cc0_scratch0 ↦{fullShare} f) ∗ ((c : Thread nD τ).loc cc0_stg0_0 ↦{fullShare} xstg m c)
        ∗ ((c : Thread nD τ).loc cc0_stg1_0 ↦{fullShare} wstg m c) ∗ ((c : Thread nD τ).loc cc0_stg2_0 ↦{fullShare} g) ∗ Run c steps)
      ⊢ iprop(((Zeros c ∗ (∃ f : Buf (Elt F) ((c : Thread nD τ).loc cc0_scratch0), (c : Thread nD τ).loc cc0_scratch0 ↦{fullShare} f)
            ∗ ((c : Thread nD τ).loc cc0_stg0_0 ↦{fullShare} xstg m c) ∗ ((c : Thread nD τ).loc cc0_stg1_0 ↦{fullShare} wstg m c)
            ∗ ((c : Thread nD τ).loc cc0_stg2_0 ↦{fullShare} (outAll m c)) ∗ Run c []) -∗ Φ ⟨⟩) -∗ WP c steps Φ) := by
  unfold Poss
  rw [bigSep_kd]
  unfold strms
  iintro ⟨#HB, ⟨HP, P1, P2, P3, P4⟩, HS, HX, HW, HO, HR⟩ Hk
  ihave HS := (slots_split c f) $$ HS
  unfold twelve three
  icases HS with ⟨⟨A0, A1, A2⟩, ⟨B0, B1, B2⟩, ⟨C0, C1, C2⟩, D0, D1, D2⟩
  ihave HX := (x_split m c) $$ HX
  icases HX with ⟨HX, X1, X2, X3, X4⟩
  ihave HO := (out_start m c g) $$ HO
  iapply (steps_run m K Ks c Φ) $$ [HP P1 P2 P3 P4 A0 A1 A2 B0 B1 B2 C0 C1 C2 D0 D1 D2 HX X1 X2 X3 X4 HW HO HR]
  · isplitr; · iexact HB
    isplitl [HP]; · iexact HP
    isplitl [A1 A2 B1 B2 C1 C2 D1 D2]
    · unfold Lends lend
      isplitl [A1 A2 C1 C2]
      · isplitl [A1 A2]
        · isplitl [A1]; · iexact A1
          iexact A2
        isplitl [C1]; · iexact C1
        iexact C2
      isplitl [D1 D2]
      · isplitl [D1]; · iexact D1
        iexact D2
      isplitl [B1]; · iexact B1
      iexact B2
    isplitl [P1 P2 P3 P4 A0 B0 C0 D0 X1 X2 X3 X4]
    · unfold Pres
      isplitl [P1 A0 X1]
      · iapply (pre_intro m c false false)
        isplitl [P1]; · iexact P1
        isplitl [A0]; · iexact A0
        iexact X1
      isplitl [P2 B0 X2]
      · iapply (pre_intro m c true true)
        isplitl [P2]; · iexact P2
        isplitl [B0]; · iexact B0
        iexact X2
      isplitl [P3 C0 X3]
      · iapply (pre_intro m c false true)
        isplitl [P3]; · iexact P3
        isplitl [C0]; · iexact C0
        iexact X3
      iapply (pre_intro m c true false)
      isplitl [P4]; · iexact P4
      isplitl [D0]; · iexact D0
      iexact X4
    isplitl [HX HW]
    · unfold Env
      isplitl [HX]; · iexact HX
      iexact HW
    isplitl [HO]; · iexact HO
    iexact HR
  iintro ⟨HP, HE, HA, HO, HR⟩
  ihave HO := (out_done m c) $$ HO
  iapply (wp_ret_intro c Φ)
  imod (all_end m K Ks c) $$ [HP HE HA] with ⟨HZ, HX, HW, HS⟩
  · isplitr; · iexact HB
    isplitl [HP]; · iexact HP
    isplitl [HE]; · iexact HE
    iexact HA
  imodintro
  iapply Hk
  isplitl [HZ]; · iexact HZ
  isplitl [HS]; · iexact HS
  isplitl [HX]; · iexact HX
  isplitl [HW]; · iexact HW
  isplitl [HO]; · iexact HO
  iexact HR

end Close

end Cert.Proof

end
-- ==== Proof.Deal.lean ====
/-
  The launch's ghost state, dealt: every device gets the positions of its own cells, and the tokens and credits its
  steps spend.
-/
module

public import proofs.«01_k».proof.Proof.Close
public import Idealize.ShloMosaic.Lib.Pipeline.TalkSched
public import Idealize.ShloMosaic.Lib.SparseCore.Launch

@[expose] public section

set_option maxRecDepth 20000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (launchCred launchCred_add launchCred_zero launchCred_tallyAt)

variable {F : FTy → Type} [FloatOps F]

local notation "𝕄" => MT nD τ sig ℕ (Elt F) ℕ UU ℕ

/-! ## The lists -/

def dutyL : List Dt := steps.flatMap dutyOf
def rdrL : List (Bool × Bool × ℕ) := steps.flatMap rdrOf
def wrtL : List (Bool × Bool × ℕ) := steps.flatMap wrtOf

theorem dutyL_nodup : dutyL.Nodup := by decide +kernel
theorem rdrL_nodup : rdrL.Nodup := by decide +kernel
theorem wrtL_nodup : wrtL.Nodup := by decide +kernel
theorem rdrL_lt : ∀ x ∈ rdrL, x.2.2 < 16 := by decide +kernel
theorem wrtL_lt : ∀ x ∈ wrtL, x.2.2 < 16 := by decide +kernel
theorem steps_good : good steps = true := by decide +kernel

/-! ## Cells and duties -/

def cellEmb : Dev nD × Kd ↪ GSem nD τ sig :=
  ⟨fun x => cell x.1 x.2, fun x y h => Prod.ext (cell_eq_iff.mp h).1 (cell_eq_iff.mp h).2⟩
def allCells : Finset (GSem nD τ sig) := Finset.univ.map cellEmb

theorem ph_eq {h h' : ℕ} (hp : ph h = ph h') (hr : h / 3 = h' / 3) : h = h' := by rw [← ph_mul h, ← ph_mul h', hp, hr]
theorem ph_eq' {h h' : ℕ} (hp : ph (h + 1) = ph (h' + 1)) (hr : h / 3 = h' / 3) : h = h' := by rw [← ph_mul' h, ← ph_mul' h', hp, hr]
theorem away_inj (d : Bool) : Function.Injective fun c : Dev nD => away c d := toward_inj (!d)

/-- The device and the kind of a duty's cell. -/
def dtDev (c : Dev nD) : Dt → Dev nD
  | .bar d => toward c d
  | .snd _ _ _ => c
  | .rcv d _ _ => toward c d
  | .crd d _ _ => away c d
def dtKd : Dt → Kd
  | .bar _ => kB
  | .snd d e h => kS d e (ph h)
  | .rcv d e h => kR d e (ph (h + 1))
  | .crd d e _ => kC d e
theorem dtAt_cell (c : Dev nD) (x : Dt) : (dtAt c x).1 = cell (dtDev c x) (dtKd x) := by cases x <;> rfl

theorem dtAt_inj : Function.Injective fun x : Dev nD × Dt => dtAt x.1 x.2 := by
  rintro ⟨c, x⟩ ⟨c', x'⟩ h
  have hc := cell_eq_iff.mp ((dtAt_cell c x).symm.trans ((congrArg Prod.fst h).trans (dtAt_cell c' x')))
  have hr : (dtAt c x).2.1 = (dtAt c' x').2.1 := congrArg (fun y => y.2.1) h
  have hd : (dtAt c x).2.2 = (dtAt c' x').2.2 := congrArg (fun y => y.2.2) h
  obtain d | ⟨d, e, i⟩ | ⟨d, e, i⟩ | ⟨d, e, i⟩ := x <;> obtain d' | ⟨d', e', i'⟩ | ⟨d', e', i'⟩ | ⟨d', e', i'⟩ := x'
  all_goals
    have hk := hc.2
    have hv := hc.1
    simp only [dtKd, dtDev, Option.some.injEq, Sum.inl.injEq, Sum.inr.injEq, Prod.mk.injEq, reduceCtorEq] at hk hv
  · have hdd : d = d' := by
      have hb : d.toNat = d'.toNat := hd
      revert hb; cases d <;> cases d' <;> decide
    subst hdd
    rw [toward_inj d hv]
  · obtain ⟨rfl, rfl, hp⟩ := hk
    rw [hv, ph_eq hp hr]
  · obtain ⟨rfl, rfl, hp⟩ := hk
    rw [toward_inj d hv, ph_eq' hp hr]
  · obtain ⟨rfl, rfl⟩ := hk
    rw [away_inj d hv, show i = i' from hd]
def dtEmb : Dev nD × Dt ↪ GSem nD τ sig × ℕ × ℕ := ⟨fun x => dtAt x.1 x.2, dtAt_inj⟩
def allToks : Finset (GSem nD τ sig × ℕ × ℕ) := (Finset.univ ×ˢ dutyL.toFinset).map dtEmb

def wrtEmb : Dev nD × (Bool × Bool × ℕ) ↪ Key :=
  ⟨fun x => (toward x.1 x.2.1, x.2), by
    rintro ⟨c, x⟩ ⟨c', x'⟩ h
    have h2 : x = x' := congrArg Prod.snd h
    subst h2
    exact Prod.ext (toward_inj x.1 (congrArg Prod.fst h)) rfl⟩

/-- Something for every device and every entry of a list. -/
theorem deal_list {I : Type} [DecidableEq I] (l : List I) (hl : l.Nodup) (Φ : Dev nD × I → sProp 𝕄) :
    bigSep (Finset.univ ×ˢ l.toFinset) Φ = bigSep Finset.univ fun c : Dev nD => bigSepL l fun x => Φ (c, x) := by
  rw [Idealize.ShloMosaic.SparseCore.bigSep_product]
  exact bigSep_congr fun c _ => bigSep_eq_bigSepL l hl _

theorem rdr_subset : (Finset.univ ×ˢ rdrL.toFinset : Finset (Dev nD × (Bool × Bool × ℕ))) ⊆ keys := by
  rintro ⟨c, d, e, j⟩ h
  exact mem_keys c d e j (rdrL_lt _ (List.mem_toFinset.mp (Finset.mem_product.mp h).2))
theorem wrt_subset : (Finset.univ ×ˢ wrtL.toFinset : Finset (Dev nD × (Bool × Bool × ℕ))).map wrtEmb ⊆ keys := by
  intro k h
  obtain ⟨⟨c, d, e, j⟩, hx, rfl⟩ := Finset.mem_map.mp h
  exact mem_keys (toward c d) d e j (wrtL_lt _ (List.mem_toFinset.mp (Finset.mem_product.mp hx).2))

theorem deal_duty : (bigSep allToks fun x => (dutyTok ER x.1 x.2.1 x.2.2 : sProp 𝕄)) = bigSep Finset.univ fun c : Dev nD => bigSepL dutyL (dutT c) := by
  unfold allToks
  rw [Idealize.SL.BI.bigSep_map]
  exact deal_list dutyL dutyL_nodup fun x => dutyTok ER (dtAt x.1 x.2).1 (dtAt x.1 x.2).2.1 (dtAt x.1 x.2).2.2
theorem deal_rdr : (bigSep keys fun k => (readerAt ES k 0 : sProp 𝕄)) ⊢ bigSep Finset.univ fun c : Dev nD => bigSepL rdrL (rdrT c) :=
  (bigSep_subset rdr_subset).trans (Entails.of_eq (deal_list rdrL rdrL_nodup fun x => readerAt ES (x : Key) 0))
theorem deal_wrt : (bigSep (keys ×ˢ Finset.range 1) fun x => (writeTok ES x.1 (x.2 + 1) : sProp 𝕄)) ⊢ bigSep Finset.univ fun c : Dev nD => bigSepL wrtL (wrtT c) := by
  have h1 : (bigSep (keys ×ˢ Finset.range 1) fun x => (writeTok ES x.1 (x.2 + 1) : sProp 𝕄)) = bigSep keys fun k => writeTok ES k 1 := by
    rw [Idealize.ShloMosaic.SparseCore.bigSep_product]
    exact bigSep_congr fun k _ => by rw [Finset.range_one, bigSep_singleton]
  have h2 : (bigSep ((Finset.univ ×ˢ wrtL.toFinset : Finset (Dev nD × (Bool × Bool × ℕ))).map wrtEmb) fun k => (writeTok ES k 1 : sProp 𝕄))
      = bigSep Finset.univ fun c : Dev nD => bigSepL wrtL (wrtT c) := by
    rw [Idealize.SL.BI.bigSep_map]
    exact deal_list wrtL wrtL_nodup fun x => writeTok ES (wrtEmb x) 1
  rw [h1, ← h2]
  exact bigSep_subset wrt_subset

/-! ## The credits -/

/-- The credit a step's payment is. -/
def payOf : Step → List Ct
  | .send d e h => [.rcv d e h]
  | .credit d e j => [.crd d e j]
  | _ => []
/-- The steps after the signals. -/
def tailL : List Step := hopsFrom 17 0
def notSig : Step → Bool
  | .bSig _ => false
  | _ => true
theorem tail_notSig : ∀ a ∈ tailL, notSig a = true := by decide +kernel
theorem tail_perm : (tailL.flatMap payOf).Perm (tailL.flatMap crdOf) := by decide +kernel
theorem tail_nodup : (tailL.flatMap payOf).Nodup := by decide +kernel

theorem cred_rcv (c : Dev nD) (d e : Bool) (h : ℕ) :
    (launchCred (fun x => payT x (.send d e h)) c : sProp 𝕄) ⊢ cred (tallyAt (cell c (kR d e (ph (h + 1)))) h N) :=
  launchCred_tallyAt (locOf (kR d e (ph (h + 1)))) (fun c => toward c d) (fun c => away c d) (fun c => toward_away c d) (fun c => away_toward c d) h N c
theorem cred_crd (c : Dev nD) (d e : Bool) (j : ℕ) :
    (launchCred (fun x => payT x (.credit d e j)) c : sProp 𝕄) ⊢ cred (tallyAt (cell c (kC d e)) j 1) :=
  launchCred_tallyAt (locOf (kC d e)) (fun c => away c d) (fun c => toward c d) (fun c => away_toward c d) (fun c => toward_away c d) j 1 c

theorem cred_step (c : Dev nD) (a : Step) (ha : notSig a = true) :
    (launchCred (fun d => payT d a) c : sProp 𝕄) ⊢ bigSepL (payOf a) (crdT c) := by
  obtain d | _ | ⟨d, e, h⟩ | ⟨d, e, h⟩ | ⟨d, e, h⟩ | ⟨d, e, h⟩ | ⟨d, e, h⟩ | _ | ⟨d, e, h⟩ := a
  case bSig => exact absurd ha Bool.noConfusion
  case send => exact cred_rcv c d e h
  case credit => exact cred_crd c d e h
  all_goals exact Entails.of_eq (launchCred_zero c)

theorem cred_list (c : Dev nD) : ∀ l : List Step, (∀ a ∈ l, notSig a = true) →
    ((launchCred (fun d => owed d l) c : sProp 𝕄) ⊢ bigSepL (l.flatMap payOf) (crdT c))
  | [], _ => Entails.of_eq (launchCred_zero c)
  | a :: l, h => by
      have ih := cred_list c l fun b hb => h b (List.mem_cons_of_mem _ hb)
      rw [List.flatMap_cons, bigSepL_append]
      show (launchCred (fun d => owed d l + payT d a) c : sProp 𝕄) ⊢ _
      rw [launchCred_add]
      iintro ⟨H1, H2⟩
      isplitl [H2]
      · iapply (cred_step c a (h a List.mem_cons_self)); iexact H2
      · iapply ih; iexact H1

theorem cred_bar (c : Dev nD) (d : Bool) : (launchCred (fun x => payT x (.bSig d)) c : sProp 𝕄) ⊢ cred (tallyAt (cell c kB) 0 1) :=
  launchCred_tallyAt (locOf kB) (fun c => toward c d) (fun c => away c d) (fun c => toward_away c d) (fun c => away_toward c d) 0 1 c

theorem deal_cred (c : Dev nD) : (launchCred (fun d => owed d steps) c : sProp 𝕄) ⊢ bigSepL (steps.flatMap crdOf) (crdT c) := by
  have h0 : steps.flatMap crdOf = .bar :: tailL.flatMap crdOf := rfl
  rw [h0, bigSepL_cons, ← Idealize.ShloMosaic.TalkSites.bigSepL_perm tail_perm tail_nodup]
  show (launchCred (fun d => ((owed d tailL + payT d .bWait) + payT d (.bSig false)) + payT d (.bSig true)) c : sProp 𝕄)
    ⊢ iprop(crdT c .bar ∗ bigSepL (tailL.flatMap payOf) (crdT c))
  rw [launchCred_add, launchCred_add, launchCred_add]
  iintro ⟨⟨⟨H, -⟩, H1⟩, H2⟩
  isplitr [H]
  · ihave H1 := (cred_bar c false) $$ H1
    ihave H2 := (cred_bar c true) $$ H2
    unfold crdT ctAt
    rw [show (2 : ℕ) = 1 + 1 from rfl, ← tallyAt_add]
    iapply (cred_add _ _).2
    isplitl [H1] <;> iassumption
  · iapply (cred_list c tailL tail_notSig); iexact H

/-! ## The element and what it gives -/

section Fund

variable (m : (ℓ : Loc nD τ sig) → Buf (Elt F) ℓ)

def uG : UB × USlots Key := (initOf allCells allToks, initSlots keys 1)

def SlotRec : sProp 𝕄 := iprop(∃ Ks : Key → ℕ, bigSep keys fun k => slotInv ES (Ks k) k (slotOf (F := F) k))
instance SlotRec_persistent : BI.Persistent (SlotRec (F := F)) := by unfold SlotRec; infer_instance

/-- The tokens device `c`'s steps spend, but for the credits. -/
def toks3 (c : Dev nD) : sProp 𝕄 := iprop(bigSepL dutyL (dutT c) ∗ bigSepL rdrL (rdrT c) ∗ bigSepL wrtL (wrtT c))

/-- What the launch element gives device `c`. -/
def G (c : Dev nD) : sProp 𝕄 :=
  iprop((bigSep Finset.univ fun k : Kd => roundState ER (Rd m) (cell c k) 0) ∗ Poss c ∗ toks3 c ∗ SlotRec (F := F))

theorem cells_split (Φ : GSem nD τ sig → sProp 𝕄) : bigSep allCells Φ = bigSep Finset.univ fun c : Dev nD => bigSep Finset.univ fun k : Kd => Φ (cell c k) := by
  unfold allCells
  rw [Idealize.SL.BI.bigSep_map, bigSep_univ_prod]
  rfl

theorem fund_all : (iprop(BI.own (ER (initOf allCells allToks)) ∗ BI.own (ES (initSlots keys 1))) : sProp 𝕄) ⊢ |={Set.univ}=> bigSep Finset.univ (G m) := by
  iintro ⟨HR, HS⟩
  imod (Rounds.fund ER (Rd m) allCells allToks) $$ HR with ⟨Hst, Hr, Hat, Htok⟩
  imod (slots_init (Es := Set.univ) ES keys 1 (slotOf (F := F))) $$ HS with ⟨%Ks, -, #HI, Hrd, Hwr⟩
  imodintro
  ihave Hst := (Entails.of_eq (cells_split fun g => roundState ER (Rd m) g 0)) $$ Hst
  ihave Hat := (Entails.of_eq (cells_split (F := F) fun g => atPos ER g 0 ∅ 0)) $$ Hat
  ihave Hr := (Entails.of_eq (cells_split (F := F) fun g => reached ER g 0)) $$ Hr
  ihave Htok := (Entails.of_eq (deal_duty (F := F))) $$ Htok
  ihave Hrd := (deal_rdr (F := F)) $$ Hrd
  ihave Hwr := (deal_wrt (F := F)) $$ Hwr
  unfold G Poss pos toks3
  simp only [bigSep_sep']
  isplitl [Hst]; · iexact Hst
  isplitl [Hat Hr]
  · isplitl [Hat]; · iexact Hat
    iexact Hr
  isplitl [Htok Hrd Hwr]
  · isplitl [Htok]; · iexact Htok
    isplitl [Hrd]; · iexact Hrd
    iexact Hwr
  iapply (BI.bigSep_of_persistent Finset.univ (SlotRec (F := F)))
  unfold SlotRec
  iexists Ks
  iexact HI

end Fund

end Cert.Proof

end
-- ==== Proof.BodyEq.lean ====
/-
  The printed kernel body is the list of steps of Ops.lean.
-/
module

public import proofs.«01_k».proof.Proof.Ops

@[expose] public section

noncomputable section

namespace Cert.Proof

open Cert.KernelIdeal Cert.KernelIdeal.Gen
open Idealize.ShloMosaic Idealize.ShloMosaic.TcCoe
open Idealize.SL Idealize.SL.Sem

variable {F : FTy → Type} [FloatOps F]

/-- Read the device, then the steps. -/
def body : Prog (TpuEff nD τ sig (Elt F) Λ₀ .tc) PUnit := .op .deviceId fun d0 => run d0 steps

/-- The printed body is that list, step by step. -/
theorem body_eq :
    cc0_body (F := F) xM (Memref.isWhole_whole _) wM (Memref.isWhole_whole _) oM (Memref.isWhole_whole _) sM (Memref.isWhole_whole _)
      cc0_scratch1 cc0_scratch2 cc0_scratch3 cc0_scratch4 cc0_scratch5 cc0_scratch6 = body := by
  chain_rfl

end Cert.Proof

end
-- ==== Proof.Launch.lean ====
/-
  The launch: the body from what the launch deals, and the run of @main.
-/
module

public import proofs.«01_k».proof.Proof.Deal
public import proofs.«01_k».proof.Proof.BodyEq
public import Idealize.ShloMosaic.Lib.Pipeline.CollectiveSegs

@[expose] public section

set_option maxRecDepth 20000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation)

variable {F : FTy → Type} [FloatOps F]

local notation "𝕄" => MT nD τ sig ℕ (Elt F) ℕ UU ℕ

section Launch

variable (m : (ℓ : Loc nD τ sig) → Buf (Elt F) ℓ) (ρ : Dev nD → PrngReg)

attribute [local irreducible] steps cc0_body

/-! ## What a device starts and ends with -/

/-- The shared records. -/
def Rec (K : Dev nD × Kd → ℕ) (Ks : Key → ℕ) : sProp 𝕄 :=
  iprop((bigSep Finset.univ fun x : Dev nD × Kd => cellInv ER (Rd m) (K x) (cell x.1 x.2))
    ∗ (bigSep Finset.univ fun x : Dev nD × Kd => reached ER (cell x.1 x.2) 0)
    ∗ (bigSep keys fun k => slotInv ES (Ks k) k (slotOf k)))
instance Rec_persistent (K : Dev nD × Kd → ℕ) (Ks : Key → ℕ) : BI.Persistent (Rec m K Ks) := by unfold Rec; infer_instance

/-- What the global step gives device `c`. -/
def G' (c : Dev nD) : sProp 𝕄 := iprop(∃ K : Dev nD × Kd → ℕ, ∃ Ks : Key → ℕ, Rec m K Ks ∗ Poss c ∗ toks3 c)

def start (c : Dev nD) : sProp 𝕄 := iprop((∃ K : Dev nD × Kd → ℕ, ∃ Ks : Key → ℕ, Bank m K Ks) ∗ Poss c ∗ toks c steps)

/-- The landing buffer, whatever it holds. -/
def scr (c : Dev nD) : sProp 𝕄 := iprop(∃ f : Buf (Elt F) ((c : Thread nD τ).loc cc0_scratch0), (c : Thread nD τ).loc cc0_scratch0 ↦{fullShare} f)
def Φ₀ (c : Dev nD) : sProp 𝕄 := iprop(start m c ∗ scr c)
def Φ₁ (c : Dev nD) : sProp 𝕄 := iprop(Zeros (F := F) c ∗ scr c)

def dats (_ : Fin 1) (c : Dev nD) : Dat τ (Elt F) ℕ ℕ UU ℕ cfg0 c where
  A w := m ((cfg0.win w).arr.view.loc (c : Thread nD τ))
  after w _ := match w with
    | ⟨0, _⟩ => xstg m c
    | ⟨1, _⟩ => wstg m c
    | ⟨2, _⟩ => outAll m c
  Φ t := match t with
    | ⟨0, _⟩ => Φ₀ m c
    | ⟨_ + 1, _⟩ => Φ₁ c
  q _ := fullShare
  owed t := match t with
    | ⟨0, _⟩ => owed c steps
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt 0 t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def bodyPost (c : Dev nD) : sProp 𝕄 :=
  iprop(Φ₁ c ∗ (dats m 0 c).owesAt 0 t0_0.succ ∗ stg c cc0_stg0_0 (xstg m c) ∗ stg c cc0_stg1_0 (wstg m c) ∗ stg c cc0_stg2_0 (outAll m c))

theorem sound_body (c : Dev nD) (Kt : PUnit → sProp 𝕄) :
    iprop(bodyPre m c ∗ (bodyPost m c -∗ Kt ⟨⟩))
      ⊢ wp frame (wpE (defs₀ (F := F)) 𝒱₀ (c : Thread nD τ) none) Set.univ (body (F := F)) Kt := by
  unfold body
  simp only [wp_deviceId]
  unfold bodyPre Φ₀ start scr
  iintro ⟨⟨⟨⟨⟨%K, %Ks, #HB⟩, HP, HT⟩, ⟨%f, HS⟩⟩, Ho, ⟨%d0, %g0, %hg0, HX⟩, ⟨%d1, %g1, %hg1, HW⟩, ⟨%d2, %g2, %hg2, HO⟩⟩, Hk⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx
  subst hw
  unfold Dat.owesAt Pipeline.owesWithin
  icases Ho with ⟨%W, %hW, HO'⟩
  rw [show (dats m 0 c).owed t0_0.castSucc = owed c steps from rfl]
  iapply (body_run m K Ks c Kt f g2) $$ [HP HT HS HO' HX HW HO]
  · isplitr; · iexact HB
    isplitl [HP]; · iexact HP
    isplitl [HS]; · iexact HS
    isplitl [HX]; · iexact HX
    isplitl [HW]; · iexact HW
    isplitl [HO]; · iexact HO
    unfold Run
    iexists W
    isplitl [HO']; · iexact HO'
    isplitl [HT]; · iexact HT
    ipureintro; exact steps_good
  iintro ⟨HZ, HS, HX, HW, HO, HR⟩
  iapply Hk
  unfold bodyPost Φ₁ scr Dat.owesAt Pipeline.owesWithin Run
  rw [show (dats m 0 c).owed t0_0.succ = 0 from rfl]
  icases HR with ⟨%W', HR, -, -⟩
  isplitl [HZ HS]
  · isplitl [HZ]; · iexact HZ
    iexact HS
  isplitl [HR]
  · iexists W'
    isplitr; · ipureintro; exact fun _ _ => Or.inl trivial
    iexact HR
  isplitl [HX]
  · iexists _; isplitr; · (ipureintro; rfl)
    iexact HX
  isplitl [HW]
  · iexists _; isplitr; · (ipureintro; rfl)
    iexact HW
  iexists _; isplitr; · (ipureintro; rfl)
  iexact HO

theorem body_obligation (c : Dev nD) : BodyObligation (dats (F := F) m 0 c) (defs₀ (F := F)) 𝒱₀ 0 Set.univ := fun t => by
  rw [fin_N0 t]
  rw [bigSep_W, bigSep_W]
  simp only [owns_whole_eq]
  show bodyPre m c ⊢ wp frame (wpE (defs₀ (F := F)) 𝒱₀ (c : Thread nD τ) none) Set.univ
    (cc0_body (F := F) xM (Memref.isWhole_whole _) wM (Memref.isWhole_whole _) oM (Memref.isWhole_whole _) sM (Memref.isWhole_whole _)
      cc0_scratch1 cc0_scratch2 cc0_scratch3 cc0_scratch4 cc0_scratch5 cc0_scratch6) (fun _ => bodyPost m c)
  rw [body_eq]
  iintro H
  iapply (sound_body m c fun _ => bodyPost m c)
  isplitl [H]; · iexact H
  iintro H; iexact H

/-! ## The launch -/

theorem ownSemFacts : Pipeline.OwnSemFacts cfg0.spec osem := by decide +kernel

theorem share_eq (c : Dev nD) (w : Fin cfg0.W) : (dats m 0 c).share w = fullShare := by unfold Dat.share; split <;> rfl

def u₀ : UU := (initOf (Pipeline.cells cfgs cellOf_inj) (Pipeline.launchToks cfgs cellOf_inj), uG)

theorem ownSems0_eq (c : Dev nD) : (Pipeline.ownSems0 (Ix := ℕ) (Name := ℕ) (U := UU) (Lvl := ℕ) (Val := Elt F) (τ := τ) osem c : sProp 𝕄)
    = strms fun k => semVal (cell c (some k)) 0 := by
  unfold Pipeline.ownSems0
  exact bigSep_ok _
theorem unscopedSems0_eq (c : Dev nD) : (unscopedSems0 c : sProp 𝕄) = semVal (cell c kB) 0 := by
  unfold unscopedSems0; rw [bigSep_eq_bigSepL_of_eq [SemLoc.reg bSem] (by decide) (by decide)]; rfl

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Kd => iprop(∃ κ : ℕ, cellInv ER (Rd m) κ (cell c k))) ∗ Poss c ∗ toks3 c ∗ SlotRec (F := F)) := by
  unfold G
  rw [ownSems0_eq, unscopedSems0_eq]
  iintro ⟨Hos, Hus, Hst, HP, HT, HS⟩
  imod (show iprop((bigSep Finset.univ fun k : Kd => semVal (cell c k) 0) ∗ bigSep Finset.univ fun k : Kd => roundState ER (Rd m) (cell c k) 0)
      ⊢ (|={Set.univ}=> bigSep Finset.univ fun k : Kd => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hos Hus Hst] with Hinv
  · isplitl [Hos Hus]
    · iapply (Entails.of_eq (bigSep_kd (fun k : Kd => (semVal (cell c k) 0 : sProp 𝕄))).symm)
      isplitl [Hus]; · iexact Hus
      iexact Hos
    iexact Hst
  imodintro
  isplitl [Hinv]; · iexact Hinv
  isplitl [HP]; · iexact HP
  isplitl [HT]; · iexact HT
  iexact HS

theorem ghost_intro (K : Dev nD × Kd → ℕ) (Ks : Key → ℕ) (c : Dev nD) : iprop(Rec m K Ks ∗ (Poss c ∗ toks3 c)) ⊢ G' m c := by
  unfold G'
  iintro ⟨HR, HP⟩
  iexists K
  iexists Ks
  isplitl [HR]; · iexact HR
  iexact HP

theorem poss_reached (c : Dev nD) : (Poss (F := F) c) ⊢ iprop(Poss c ∗ bigSep Finset.univ fun k : Kd => reached ER (cell c k) 0) := by
  unfold Poss
  refine (bigSep_mono fun k _ => pos_reached c k 0).trans ?_
  rw [bigSep_sep']
  exact fun _ h => h

theorem with_rec {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem slotRec_one : (bigSep Finset.univ fun _ : Dev nD => SlotRec (F := F)) ⊢ SlotRec (F := F) :=
  bigSep_elim (Finset.mem_univ (0 : Dev nD))

theorem regroup :
    (bigSep Finset.univ fun c : Dev nD => iprop((bigSep Finset.univ fun k : Kd => iprop(∃ κ : ℕ, cellInv ER (Rd m) κ (cell c k))) ∗ Poss c ∗ toks3 c ∗ SlotRec (F := F)) : sProp 𝕄)
      ⊢ bigSep Finset.univ (G' m) := by
  have hR : (bigSep Finset.univ fun c : Dev nD => (Poss c : sProp 𝕄))
      ⊢ iprop((bigSep Finset.univ fun c : Dev nD => Poss c) ∗ bigSep Finset.univ fun x : Dev nD × Kd => reached ER (cell x.1 x.2) 0) := by
    rw [bigSep_univ_prod, ← bigSep_sep']
    exact bigSep_mono fun c _ => poss_reached c
  rw [bigSep_sep', bigSep_sep', bigSep_sep', ← bigSep_univ_prod (fun x : Dev nD × Kd => iprop(∃ κ : ℕ, cellInv ER (Rd m) κ (cell x.1 x.2)))]
  iintro ⟨HI, HP, HT, HS⟩
  ihave HK := (BI.bigSep_exists_pi Finset.univ (fun (x : Dev nD × Kd) (κ : ℕ) => (cellInv ER (Rd m) κ (cell x.1 x.2) : sProp 𝕄))) $$ HI
  icases HK with ⟨%K, #HI⟩
  ihave HS := (slotRec_one (F := F)) $$ HS
  unfold SlotRec
  icases HS with ⟨%Ks, #HS⟩
  ihave HP := hR $$ HP
  icases HP with ⟨HP, #HR⟩
  iapply (with_rec (R := Rec m K Ks) fun c => ghost_intro m K Ks c)
  isplitr
  · unfold Rec
    isplitr; · iexact HI
    isplitr; · iexact HR
    iexact HS
  · iapply (Entails.of_eq (bigSep_sep' Finset.univ (fun c : Dev nD => (Poss c : sProp 𝕄)) (fun c => toks3 c)).symm)
    isplitl [HP]; · iexact HP
    iexact HT

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred (fun d => owed d steps) c ∗ prngReg c (ρ c) ∗ G' m c)
      ⊢ |={Set.univ}=> iprop(start m c ∗ emp) := by
  iintro ⟨-, Hlev, Hcr, -, HG⟩
  ihave Hc := (deal_cred c) $$ Hcr
  unfold G' Rec toks3
  icases HG with ⟨%K, %Ks, ⟨H1, H2, H3⟩, HP, T1, T2, T3⟩
  imodintro
  unfold start
  isplitl
  · isplitl [H1 H2 H3 Hlev]
    · iexists K
      iexists Ks
      unfold Bank
      isplitl [H1]; · iexact H1
      isplitl [H2]; · iexact H2
      isplitl [H3]; · iexact H3
      iexact Hlev
    isplitl [HP]; · iexact HP
    unfold toks
    isplitl [T1]; · iexact T1
    isplitl [T2]; · iexact T2
    isplitl [T3]; · iexact T3
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ scr Zeros
  iintro ⟨⟨HB, HZ⟩, Hr⟩
  isplitl [HB]; · iexact HB
  isplitl [HZ]; · iexact HZ
  iexact Hr

/-! ## The staging waits -/

theorem kindOf_none (l : SemLoc sig) (h : ∀ k : Kd, locOf k ≠ l) : kindOf l = none :=
  dif_neg (by rintro ⟨k, hk⟩; exact h k hk)
theorem steps_above : above 0 steps = true := by decide +kernel

theorem mayWait_stage (c : Dev nD) (q : DmaSem sig) (hq : ∀ k : Kd, locOf k ≠ .dma q) (O : CellTallies nD τ sig ℕ) (hO : O = owed c steps ∨ O = 0) :
    (levAts L lv : sProp 𝕄) ⊢ MayWait (c : Thread nD τ) (.dma q) 0 O := by
  rcases hO with rfl | rfl
  · refine mayWait_of c steps 0 steps_above steps_good (.dma q) 0 (by decide) ?_
    unfold lv
    rw [kindOf_none _ hq]
  · rw [MayWait_zero]; iintro -; iempintro

theorem waits (c : Dev nD) : (levAts L lv : sProp 𝕄) ⊢ Pipeline.cellsWaits cfgs (dats m) 0 0 c :=
  Pipeline.cellsWaits_intro cfgs (dats m) 0 0 c fun w s t =>
    mayWait_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun c => owed c steps) (howed₀ := fun _ => rfl) (howedN := fun _ => rfl)
    (L := L) (lv := lv) (hL := L_of_ne) (hwaits := waits m)
    (G := G m) (G' := G' m) (u₀ := u₀)
    (hu₀ := by
      unfold u₀ uG
      iintro Hu
      ihave H := (ownU_pair _ _) $$ Hu
      icases H with ⟨HP, HX⟩
      ihave HX := (own_pair_emb embR _ _) $$ HX
      imod (show iprop(own ((Emb.inl.trans embR) (initOf allCells allToks)) ∗ own ((Emb.inr.trans embR) (initSlots keys 1))) ⊢ (|={Set.univ}=> bigSep Finset.univ (G m) : sProp 𝕄) from fund_all m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Launch

end Cert.Proof

end
-- ==== Proof.RefValue.lean ====
/-
  The reference: what it computes of the whole arrays, over the extended reals.
-/
module

public import proofs.«01_k».proof.Defs
public import proofs.«01_k».proof.Proof.Gen.ReferenceIdeal.Run
public import Idealize.ShloMosaic.Lib.StackMember
public import Idealize.ShloMosaic.Lib.Quiescent

@[expose] public section

noncomputable section

namespace Cert.Proof.Ref

open Cert.ReferenceIdeal Cert.ReferenceIdeal.Gen
open Idealize.ShloMosaic Idealize.ShloMosaic.TcCoe
open Idealize.SL Idealize.SL.Sem
open Idealize.ShloMosaic.ValueIdx (ix2 eq_ix2)

/-! ## The activation -/

/-- The activation of one entry, as the reference groups it. -/
def geluE (y : EReal) : EReal :=
  Ideal.ofBits .f32 0x3F000000#32 * y * (Ideal.ofBits .f32 0x3F800000#32 + Ideal.tanh (Ideal.ofBits .f32 0x3F4C422A#32
    * (y + Ideal.ofBits .f32 0x3D372713#32 * (y * y * y))))

/-! ## The reference's run -/

/-- What the reference computes of the whole arrays. -/
def out (X : FVec Ideal S4096x4096 .f32) (W : FVec Ideal S4096x2048 .f32) : FVec Ideal S4096x2048 .f32 :=
  fun i => geluE (∑ k : Fin 4096, X (ix2 (i 0) k) * W (ix2 k (i 1)))

theorem dot_apply (X : FVec Ideal S4096x4096 .f32) (W : FVec Ideal S4096x2048 .f32) (i : S4096x2048.Idx) :
    Host.dotGeneral dot_S4096x4096_S4096x2048_S4096x2048_1_0_0_1_n_n none X W i = ∑ k : Fin 4096, X (ix2 (i 0) k) * W (ix2 k (i 1)) := by
  rw [eq_ix2 i]
  exact StackMember.dotGeneral_plain_apply none X W (i 0) (i 1)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext fun i => congrArg geluE (dot_apply _ _ i)), (h c).2⟩) (Cert.ReferenceIdeal.Value.run m ρ)

/-- The reference runs, keeps its arguments, and has no semaphore. -/
theorem frame : Cert.quiescent_ReferenceIdeal := fun m ρ _ =>
  (θ_run Cert.ReferenceIdeal.defs _ _).mono (fun r h => ⟨fun c => (h c).2, sem_eq_zero_of_no_sems (by decide) r.2⟩) (run m ρ)

end Cert.Proof.Ref

end
-- ==== Proof.Value.lean ====
/-
  The values: what the kernel leaves is the device's columns of the reference's result, over the extended reals.
-/
module

public import proofs.«01_k».proof.Proof.Launch
public import proofs.«01_k».proof.Proof.RefValue
public import Idealize.ShloMosaic.Lib.MatmulPlain
public import Idealize.ShloMosaic.Lib.Layout
public import Idealize.ShloMosaic.Lib.Pipeline.Value

@[expose] public section

set_option maxRecDepth 20000

noncomputable section

namespace Cert.Proof

open Cert.KernelIdeal Cert.KernelIdeal.Gen
open Idealize.ShloMosaic Idealize.ShloMosaic.TcCoe
open Idealize.SL Idealize.SL.Sem
open Idealize.ShloMosaic.ValueIdx (ix2 eq_ix2)
open Cert.Proof.Ref (geluE)

section Final

variable {F : FTy → Type} [FloatOps F]
variable (m : (ℓ : Loc nD τ sig) → Buf (Elt F) ℓ)

/-! ## What the three arrays hold at the end -/

theorem finalA_x (c : Dev nD) : finalA m c (0 : Fin 3) = m ((c : Thread nD τ).loc main_arg0) := (dats (F := F) m 0 c).arrAt_in (0 : Fin 3) rfl _
theorem finalA_w (c : Dev nD) : finalA m c (1 : Fin 3) = m ((c : Thread nD τ).loc main_arg1) := (dats (F := F) m 0 c).arrAt_in (1 : Fin 3) rfl _

theorem finalA_o' (c : Dev nD) : (win0_2.blk (0 : Fin 1)).view.read (Elt F) (finalA m c (2 : Fin 3)) = outAll m c := by
  unfold finalA
  rw [show cfg0.N = ((0 : Fin 1) : Fin cfg0.N).val + 1 from rfl, (dats m 0 c).arrAt_succ (2 : Fin 3) (0 : Fin 1)]
  rw [show (cfg0.win (2 : Fin 3)).flush (0 : Fin 1) = true from by decide, if_pos rfl]
  exact View.read_write_univ _ _

/-- Each window's one block is the whole array. -/
theorem blk_x (f : (main_arg0 : Ref sig .tc).ty.Contents (Elt F)) : (win0_0.blk (0 : Fin 1)).view.read (Elt F) f = f :=
  Memref.read_access_unit_zero (Elt F) main_arg0 (funext fun a => by fin_cases a <;> decide) (fun a => by fin_cases a <;> decide) f
theorem blk_w (f : (main_arg1 : Ref sig .tc).ty.Contents (Elt F)) : (win0_1.blk (0 : Fin 1)).view.read (Elt F) f = f :=
  Memref.read_access_unit_zero (Elt F) main_arg1 (funext fun a => by fin_cases a <;> decide) (fun a => by fin_cases a <;> decide) f
theorem blk_o (f : (main_v1 : Ref sig .tc).ty.Contents (Elt F)) : (win0_2.blk (0 : Fin 1)).view.read (Elt F) f = f :=
  Memref.read_access_unit_zero (Elt F) main_v1 (funext fun a => by fin_cases a <;> decide) (fun a => by fin_cases a <;> decide) f

theorem finalA_o (c : Dev nD) : finalA m c (2 : Fin 3) = outAll m c := (blk_o _).symm.trans (finalA_o' m c)
theorem xstg_eq (c : Dev nD) : xstg m c = m ((c : Thread nD τ).loc main_arg0) := blk_x _
theorem wstg_eq (c : Dev nD) : wstg m c = m ((c : Thread nD τ).loc main_arg1) := blk_w _

/-- Half `e` of a block, read at an entry. -/
theorem read_half (e : Bool) (f : (cc0_stg0_0 : Ref sig .tc).ty.Contents (Elt F)) (r : Fin 64) (k : Fin 4096) (h : 64 * e.toNat + r.val < 128) :
    (halfM e).view.read (Elt F) f (ix2 r k) = f (ix2 (⟨64 * e.toNat + r.val, h⟩ : Fin 128) k) := by
  refine congrArg f (funext fun a => Fin.ext ?_)
  match a with
  | ⟨0, _⟩ => exact (Rect.emb_apply _ _ _).trans (congrArg (64 * e.toNat + ·) (Nat.one_mul _))
  | ⟨1, _⟩ => exact (Rect.emb_apply _ _ _).trans ((Nat.zero_add _).trans (Nat.one_mul _))

end Final

/-! ## The activation -/

theorem geluK_apply (s : Shape) (y : FVec Ideal s .f32) (i : s.Idx) : geluK s y i = geluE (y i) := by
  have h : geluK s y i = Ideal.ofBits .f32 0x3F000000#32 * y i * (Ideal.ofBits .f32 0x3F800000#32 + Ideal.tanh (Ideal.ofBits .f32 0x3F4C422A#32
    * (y i + Ideal.ofBits .f32 0x3D372713#32 * y i * y i * y i))) := rfl
  rw [h, geluE, mul_assoc (Ideal.ofBits .f32 0x3D372713#32 * y i), mul_assoc (Ideal.ofBits .f32 0x3D372713#32), mul_assoc (y i)]

/-! ## The products -/

/-- An entry of the kernel's product of the device's own block; -/
theorem pay0_apply (X : FVec Ideal S128x4096 .f32) (w : FVec Ideal S4096x64 .f32) (r : Fin 128) (l : Fin 64) :
    pay0 (F := Ideal) X w (ix2 r l) = geluE (∑ k : Fin 4096, X (ix2 r k) * w (ix2 k l)) := by
  unfold pay0
  rw [geluK_apply, shapeCast_self, shapeCast_self]
  refine congrArg geluE ((Ideal.matmul_plain_apply none X w (constant S128x64 .f32 0x00000000#32) r l).trans ?_)
  show Ideal.ofBits .f32 0x00000000#32 + _ = _
  rw [Ideal.ofBits_zero_f32, zero_add]
/-- of a landed half. -/
theorem payV_apply (X : FVec Ideal S64x4096 .f32) (w : FVec Ideal S4096x64 .f32) (r : Fin 64) (l : Fin 64) :
    payV (F := Ideal) X w (ix2 r l) = geluE (∑ k : Fin 4096, X (ix2 r k) * w (ix2 k l)) := by
  unfold payV
  rw [geluK_apply, shapeCast_self]
  refine congrArg geluE ((Ideal.matmul_plain_apply none X w (constant S64x64 .f32 0x00000000#32) r l).trans ?_)
  show Ideal.ofBits .f32 0x00000000#32 + _ = _
  rw [Ideal.ofBits_zero_f32, zero_add]

section Whole

variable (m : (ℓ : Loc nD τ sig) → Buf (Elt Ideal) ℓ)

/-- A row of the result is a row of the block of the device it belongs to. -/
theorem outAll_apply (X : Dev nD → FVec Ideal S128x4096 .f32) (W : Dev nD → FVec Ideal S4096x64 .f32)
    (hX : ∀ c : Dev nD, m ((c : Thread nD τ).loc main_arg0) = X c) (hW : ∀ c : Dev nD, m ((c : Thread nD τ).loc main_arg1) = W c)
    (c : Dev nD) (i : S4096x64.Idx) :
    outAll (F := Ideal) m c i = geluE (∑ k : Fin 4096, X (rowDev i) (ix2 (⟨(i 0).val % 128, Nat.mod_lt _ (by decide)⟩ : Fin 128) k) * W c (ix2 k (i 1))) := by
  unfold outAll
  rw [xstg_eq, xstg_eq, wstg_eq, hX, hX, hW]
  split
  · next h =>
    rw [← h]
    exact pay0_apply _ _ _ _
  · refine (payV_apply _ _ _ _).trans (congrArg geluE (Finset.sum_congr rfl fun k _ => ?_))
    have hv : 64 * (rowHalf i).toNat + (i 0).val % 64 = (i 0).val % 128 := by
      unfold rowHalf
      by_cases h : (i 0).val % 128 / 64 = 1
      · simp only [h, decide_true, Bool.toNat_true]; omega
      · simp only [h, decide_false, Bool.toNat_false]; omega
    rw [read_half _ _ _ _ (by rw [hv]; exact Nat.mod_lt _ (by decide))]
    simp only [hv]

end Whole

/-! ## The claims of the kernel -/

theorem frame_ideal : Cert.quiescent_KernelIdeal := fun m ρ _ =>
  (θ_run defs _ _).mono (fun _ h => ⟨fun c => ⟨(h.1 c (0 : Fin 3)).trans (finalA_x m c), (h.1 c (1 : Fin 3)).trans (finalA_w m c)⟩, h.2⟩)
    (run_main (F := Ideal) m ρ)

/-- Device `c`'s result is its columns of the reference's. -/
theorem outAll_block (m : (ℓ : Loc nD τ sig) → Buf (Elt Ideal) ℓ) (X : FVec Ideal ⟨2, ![4096, 4096]⟩ .f32) (W : FVec Ideal ⟨2, ![4096, 2048]⟩ .f32)
    (hX : ∀ c : Dev nD, m ((c : Thread nD τ).loc main_arg0) = Layout.block ⟨2, ![128, 4096]⟩ ⟨2, ![4096, 4096]⟩ 0 32 c X)
    (hW : ∀ c : Dev nD, m ((c : Thread nD τ).loc main_arg1) = Layout.block ⟨2, ![4096, 64]⟩ ⟨2, ![4096, 2048]⟩ 1 32 c W) (c : Dev nD) :
    outAll (F := Ideal) m c = Layout.block ⟨2, ![4096, 64]⟩ ⟨2, ![4096, 2048]⟩ 1 32 c (Ref.out X W) := by
  funext i
  refine (outAll_apply m _ _ hX hW c i).trans (congrArg geluE (Finset.sum_congr rfl fun k _ => congrArg₂ (· * ·) (congrArg X ?_) (congrArg W ?_)))
  · funext a
    refine Fin.ext ?_
    match a with
    | ⟨0, _⟩ => exact Nat.div_add_mod' _ _
    | ⟨1, _⟩ => rfl
  · funext a
    refine Fin.ext ?_
    match a with
    | ⟨0, _⟩ => rfl
    | ⟨1, _⟩ => rfl

theorem algebraic : Cert.algebraic_KernelIdeal_ReferenceIdeal := by
  intro m ρ m' ρ' _ hagree
  refine ⟨Ref.out (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run defs _ _).mono
      (fun _ h c => ⟨(h.1 c (2 : Fin 3)).trans ((finalA_o m c).trans (outAll_block m _ _ (fun c => (hagree c).1) (fun c => (hagree c).2) c)),
        (h.1 c (0 : Fin 3)).trans (finalA_x m c), (h.1 c (1 : Fin 3)).trans (finalA_w m c)⟩)
      (run_main (F := Ideal) m ρ)
  · exact (θ_run Cert.ReferenceIdeal.defs _ _).mono (fun _ h => h 0) (Ref.run m' ρ')

end Cert.Proof

end
-- ==== Proof.lean ====
/-
  The claim: the frames of the kernel, of its idealization and of the reference, that the idealization is the kernel's
  own text, and that over the extended reals every device's result is its columns of the reference's.
-/
module

public import proofs.«01_k».proof.Proof.Gen.ReferenceIdeal.Run
public import proofs.«01_k».proof.Proof.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

set_option maxRecDepth 20000

noncomputable section

namespace Cert.Proof

open Idealize.ShloMosaic Idealize.SL.Sem Cert.Kernel

/-- The kernel's text is its idealization's: the body table, -/
theorem defs₀_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl
/-- and with it the pipeline's. -/
theorem defs_eq : Cert.Kernel.defs (F := Bits) = Cert.KernelIdeal.defs (F := Bits) := congrArg (Pipeline.defs Cert.KernelIdeal.pcfgs) defs₀_eq

/-- The kernel's frame, from the same run read at the machine's own floats. -/
theorem frame_kernel : Cert.quiescent_Kernel := by
  intro m ρ _
  refine (congrArg (fun D => θ_run D (onTc (τ := Cert.KernelIdeal.τ) (Cert.KernelIdeal.main (F := Bits))) ⟨m, fun _ => 0, ρ⟩ _) defs_eq).mpr ?_
  exact (θ_run Cert.KernelIdeal.defs _ _).mono
    (fun _ h => ⟨fun c => ⟨(h.1 c (0 : Fin 3)).trans (finalA_x m c), (h.1 c (1 : Fin 3)).trans (finalA_w m c)⟩, h.2⟩)
    (run_main (F := Bits) m ρ)

theorem claim : Cert.Claim := ⟨Cert.Kernel.Gen.facts, Cert.KernelIdeal.Gen.facts, Cert.ReferenceIdeal.Gen.facts,
  frame_kernel, frame_ideal, Ref.frame, trivial, algebraic⟩

end Cert.Proof

end
